-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x12x64x128 : Shape := ⟨4, ![8, 12, 64, 128]⟩
abbrev S64x64 : Shape := ⟨2, ![64, 64]⟩
abbrev S12x128x128 : Shape := ⟨3, ![12, 128, 128]⟩
abbrev S_ : Shape := ⟨0, ![]⟩
abbrev S64 : Shape := ⟨1, ![64]⟩
abbrev S64x64x1x3 : Shape := ⟨4, ![64, 64, 1, 3]⟩
abbrev S64x1 : Shape := ⟨2, ![64, 1]⟩
abbrev S8x7x64x128 : Shape := ⟨4, ![8, 7, 64, 128]⟩

class Facts : Prop where
  slices_S8x12x64x128_S8x7x64x128_0_5_0_0 : S8x12x64x128.Slices ![0, 5, 0, 0] S8x7x64x128
  bcast_S_S8x7x64x128 : S_.BroadcastsInDim S8x7x64x128 (![] : Fin 0 → Fin S8x7x64x128.rank)
  reducesTo_S8x7x64x128_S_d0_1_2_3 : S8x7x64x128.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x64x1x3 : S_.BroadcastsInDim S64x64x1x3 (![] : Fin 0 → Fin S64x64x1x3.rank)
  reducesTo_S64x64x1x3_S_d0_1_2_3 : S64x64x1x3.ReducesTo [0, 1, 2, 3] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg17 : FVec F S64x1 .f32) (main_v29 : IVec S_ 1) (main_v33 : IVec S_ 1) : IVec S_ 1 :=
  let main_v34 : IVec S_ 1 := andi main_v29 main_v33
  let main_v35 : FVec F S64x1 .f32 := Host.absf main_arg17
  let main_cst_12 : FVec F S_ .f32 := constant S_ .f32 0x7F800000#32
  let main_v36 : FVec F S64x1 .f32 := broadcastInDim S64x1 ![] bcast_S_S64x1 main_cst_12
  let main_v37 : IVec S64x1 1 := cmpf .olt main_v35 main_v36
  let main_c_13 : IVec S_ 1 := constantI S_ 1 1#1
  let main_v38 : IVec S_ 1 := (fun x v => Host.reduce IntOp.andi x v reducesTo_S64x1_S_d0_1 h_S_) main_v37 main_c_13
  let main_v39 : IVec S_ 1 := andi main_v34 main_v38
  main_v39

def fn_part1 {F : FTy → Type} [FloatOps F] (main_arg9 : FVec F S64x64 .f32) (main_arg12 : FVec F S64 .f32) (main_arg13 : FVec F S64x64x1x3 .f32) (main_arg17 : FVec F S64x1 .f32) (main_v14 : IVec S_ 1) (main_v15 : FVec F S64x64x1x3 .f32) (main_v16 : FVec F S64x64x1x3 .f32) : IVec S_ 1 :=
  let main_v17 : IVec S64x64x1x3 1 := cmpf .olt main_v15 main_v16
  let main_c_5 : IVec S_ 1 := constantI S_ 1 1#1
  let main_v18 : IVec S_ 1 := (fun x v => Host.reduce IntOp.andi x v reducesTo_S64x64x1x3_S_d0_1_2_3 h_S_) main_v17 main_c_5
  let main_v19 : IVec S_ 1 := andi main_v14 main_v18
  let main_v20 : FVec F S64 .f32 := Host.absf main_arg12
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  let main_v25 : FVec F S64x64 .f32 := Host.absf main_arg9
  let main_cst_8 : FVec F S_ .f32 := constant S_ .f32 0x7F800000#32
  let main_v26 : FVec F S64x64 .f32 := broadcastInDim S64x64 ![] bcast_S_S64x64 main_cst_8
  let main_v27 : IVec S64x64 1 := cmpf .olt main_v25 main_v26
  let main_c_9 : IVec S_ 1 := constantI S_ 1 1#1
  let main_v28 : IVec S_ 1 := (fun x v => Host.reduce IntOp.andi x v reducesTo_S64x64_S_d0_1 h_S_) main_v27 main_c_9
  let main_v29 : IVec S_ 1 := andi main_v24 main_v28
  let main_v30 : FVec F S64x64x1x3 .f32 := Host.absf main_arg13
  let main_cst_10 : FVec F S_ .f32 := constant S_ .f32 0x7F800000#32
  let main_v31 : FVec F S64x64x1x3 .f32 := broadcastInDim S64x64x1x3 ![] bcast_S_S64x64x1x3 main_cst_10
  let main_v32 : IVec S64x64x1x3 1 := cmpf .olt main_v30 main_v31
  let main_c_11 : IVec S_ 1 := constantI S_ 1 1#1
  let main_v33 : IVec S_ 1 := (fun x v => Host.reduce IntOp.andi x v reducesTo_S64x64x1x3_S_d0_1_2_3 h_S_) main_v32 main_c_11
  fn_part2 (F := F) main_arg17 main_v29 main_v33

def fn {F : FTy → Type} [FloatOps F] (main_arg0 : FVec F S8x12x64x128 .f32) (main_arg1 : FVec F S64x64 .f32) (main_arg2 : FVec F S12x128x128 .f32) (main_arg3 : IVec S_ 32) (main_arg4 : IVec S_ 32) (main_arg5 : IVec S_ 32) (main_arg6 : FVec F S12x128x128 .f32) (main_arg7 : FVec F S64x64 .f32) (main_arg8 : FVec F S64 .f32) (main_arg9 : FVec F S64x64 .f32) (main_arg10 : FVec F S64 .f32) (main_arg11 : FVec F S64x64x1x3 .f32) (main_arg12 : FVec F S64 .f32) (main_arg13 : FVec F S64x64x1x3 .f32) (main_arg14 : FVec F S64 .f32) (main_arg15 : FVec F S64x64 .f32) (main_arg16 : FVec F S64 .f32) (main_arg17 : FVec F S64x1 .f32) : IVec S_ 1 :=
  let main_v0 : FVec F S8x7x64x128 .f32 := (extractStridedSlice S8x7x64x128 ![0, 5, 0, 0] · slices_S8x12x64x128_S8x7x64x128_0_5_0_0) main_arg0
  let main_v1 : FVec F S8x7x64x128 .f32 := Host.absf main_v0
  let main_cst : FVec F S_ .f32 := constant S_ .f32 0x7F800000#32
  let main_v2 : FVec F S8x7x64x128 .f32 := broadcastInDim S8x7x64x128 ![] bcast_S_S8x7x64x128 main_cst
  let main_v3 : IVec S8x7x64x128 1 := cmpf .olt main_v1 main_v2
  let main_c : IVec S_ 1 := constantI S_ 1 1#1
  let main_v4 : IVec S_ 1 := (fun x v => Host.reduce IntOp.andi x v reducesTo_S8x7x64x128_S_d0_1_2_3 h_S_) main_v3 main_c
  let main_v5 : FVec F S64x64 .f32 := Host.absf main_arg7
  let main_cst_0 : FVec F S_ .f32 := constant S_ .f32 0x7F800000#32
  let main_v6 : FVec F S64x64 .f32 := broadcastInDim S64x64 ![] bcast_S_S64x64 main_cst_0
  let main_v7 : IVec S64x64 1 := cmpf .olt main_v5 main_v6
  let main_c_1 : IVec S_ 1 := constantI S_ 1 1#1
  let main_v8 : IVec S_ 1 := (fun x v => Host.reduce IntOp.andi x v reducesTo_S64x64_S_d0_1 h_S_) main_v7 main_c_1
  let main_v9 : IVec S_ 1 := andi main_v4 main_v8
  let main_v10 : FVec F S64 .f32 := Host.absf main_arg8
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S64x64x1x3 .f32 := Host.absf main_arg11
  let main_cst_4 : FVec F S_ .f32 := constant S_ .f32 0x7F800000#32
  let main_v16 : FVec F S64x64x1x3 .f32 := broadcastInDim S64x64x1x3 ![] bcast_S_S64x64x1x3 main_cst_4
  fn_part1 (F := F) main_arg9 main_arg12 main_arg13 main_arg17 main_v14 main_v15 main_v16
-- ==== Kernel.lean ====
abbrev S8x12x64x128 : Shape := ⟨4, ![8, 12, 64, 128]⟩
abbrev S64x64 : Shape := ⟨2, ![64, 64]⟩
abbrev S12x128x128 : Shape := ⟨3, ![12, 128, 128]⟩
abbrev S_ : Shape := ⟨0, ![]⟩
abbrev S64 : Shape := ⟨1, ![64]⟩
abbrev S64x64x1x3 : Shape := ⟨4, ![64, 64, 1, 3]⟩
abbrev S64x1 : Shape := ⟨2, ![64, 1]⟩
abbrev S8x64 : Shape := ⟨2, ![8, 64]⟩
abbrev S64x64x3 : Shape := ⟨3, ![64, 64, 3]⟩
abbrev S3x64x64 : Shape := ⟨3, ![3, 64, 64]⟩
abbrev S192x64 : Shape := ⟨2, ![192, 64]⟩
abbrev S1x64 : Shape := ⟨2, ![1, 64]⟩
abbrev S4x64 : Shape := ⟨2, ![4, 64]⟩
abbrev S528x64 : Shape := ⟨2, ![528, 64]⟩
abbrev S8x128x64 : Shape := ⟨3, ![8, 128, 64]⟩
abbrev S4x4x64x128 : Shape := ⟨4, ![4, 4, 64, 128]⟩
abbrev S4x4x64 : Shape := ⟨3, ![4, 4, 64]⟩
abbrev S4x8x64 : Shape := ⟨3, ![4, 8, 64]⟩
abbrev S32x64 : Shape := ⟨2, ![32, 64]⟩
abbrev S8x1x64 : Shape := ⟨3, ![8, 1, 64]⟩

abbrev nBuf : Space → Nat
  | .hbm => 33
  | .vmem => 7
  | .smem => 0
  | _ => 0

abbrev bufTy : (tb : Table) → Fin (tcTables nBuf tb) → BufTy
  | .hbm, ⟨0, _⟩ => ⟨S8x12x64x128, .f32⟩
  | .hbm, ⟨1, _⟩ => ⟨S64x64, .f32⟩
  | .hbm, ⟨2, _⟩ => ⟨S12x128x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S12x128x128, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64x1x3, .f32⟩
  | .hbm, ⟨12, _⟩ => ⟨S64, .f32⟩
  | .hbm, ⟨13, _⟩ => ⟨S64x64x1x3, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S8x64, .f32⟩
  | .hbm, ⟨19, _⟩ => ⟨S64x64x3, .f32⟩
  | .hbm, ⟨20, _⟩ => ⟨S3x64x64, .f32⟩
  | .hbm, ⟨21, _⟩ => ⟨S192x64, .f32⟩
  | .hbm, ⟨22, _⟩ => ⟨S64x64x3, .f32⟩
  | .hbm, ⟨23, _⟩ => ⟨S3x64x64, .f32⟩
  | .hbm, ⟨24, _⟩ => ⟨S192x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S_, .f32⟩
  | .hbm, ⟨30, _⟩ => ⟨S4x64, .f32⟩
  | .hbm, ⟨31, _⟩ => ⟨S528x64, .f32⟩
  | .hbm, ⟨32, _⟩ => ⟨S8x128x64, .f32⟩
  | .local _ .vmem, ⟨0, _⟩ => ⟨S4x4x64x128, .f32⟩
  | .local _ .vmem, ⟨1, _⟩ => ⟨S4x4x64x128, .f32⟩
  | .local _ .vmem, ⟨2, _⟩ => ⟨S4x4x64x128, .f32⟩
  | .local _ .vmem, ⟨3, _⟩ => ⟨S4x4x64x128, .f32⟩
  | .local _ .vmem, ⟨4, _⟩ => ⟨S528x64, .f32⟩
  | .local _ .vmem, ⟨5, _⟩ => ⟨S8x128x64, .f32⟩
  | .local _ .vmem, ⟨6, _⟩ => ⟨S64x64, .f32⟩
  | _, _ => ⟨S8x12x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c32_i32 : BitVec 32 := 32#32
  let v10 : BitVec 32 := Scalar.muli arg0 c32_i32
  let v11 : Index := Scalar.indexCast v10
  let c0_10 : Index := 0#32
  ![v11.toNat, 0]
def k0_cond1 (i : grid0.Coords) : BitVec 1 :=
  let arg0 : BitVec 32 := BitVec.ofNat 32 (i 0).val
  let c1_i32 : BitVec 32 := 1#32
  let v15 : BitVec 1 := Scalar.cmpi .eq arg0 c1_i32
  let v16 : BitVec 32 := Scalar.extui v15
  let c0_i32 : BitVec 32 := 0#32
  let v17 : BitVec 1 := Scalar.cmpi .ne v16 c0_i32
  v17

def cc0_transform_0 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_1 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x4x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S528x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x12x64x128 : Shape := ⟨4, ![8, 12, 64, 128]⟩
abbrev S64x64 : Shape := ⟨2, ![64, 64]⟩
abbrev S12x128x128 : Shape := ⟨3, ![12, 128, 128]⟩
abbrev S_ : Shape := ⟨0, ![]⟩
abbrev S64 : Shape := ⟨1, ![64]⟩
abbrev S64x64x1x3 : Shape := ⟨4, ![64, 64, 1, 3]⟩
abbrev S64x1 : Shape := ⟨2, ![64, 1]⟩
abbrev S8x12x128x64 : Shape := ⟨4, ![8, 12, 128, 64]⟩
abbrev S8x1x128x64 : Shape := ⟨4, ![8, 1, 128, 64]⟩
abbrev S8x128x64 : Shape := ⟨3, ![8, 128, 64]⟩
abbrev S8x12x128x128 : Shape := ⟨4, ![8, 12, 128, 128]⟩
abbrev S8x12x128 : Shape := ⟨3, ![8, 12, 128]⟩
abbrev S8x12x128x1 : Shape := ⟨4, ![8, 12, 128, 1]⟩
abbrev S1x12x128x128 : Shape := ⟨4, ![1, 12, 128, 128]⟩
abbrev S96x128x64 : Shape := ⟨3, ![96, 128, 64]⟩
abbrev S12288x64 : Shape := ⟨2, ![12288, 64]⟩
abbrev S128 : Shape := ⟨1, ![128]⟩
abbrev S128x128 : Shape := ⟨2, ![128, 128]⟩
abbrev S16384 : Shape := ⟨1, ![16384]⟩
abbrev S1x128 : Shape := ⟨2, ![1, 128]⟩
abbrev S96 : Shape := ⟨1, ![96]⟩
abbrev S96x1 : Shape := ⟨2, ![96, 1]⟩
abbrev S1x16384 : Shape := ⟨2, ![1, 16384]⟩
abbrev S96x16384 : Shape := ⟨2, ![96, 16384]⟩
abbrev S1572864 : Shape := ⟨1, ![1572864]⟩
abbrev S1572864x1 : Shape := ⟨2, ![1572864, 1]⟩
abbrev S1 : Shape := ⟨1, ![1]⟩
abbrev S1x1 : Shape := ⟨2, ![1, 1]⟩
abbrev S1572864x64 : Shape := ⟨2, ![1572864, 64]⟩
abbrev S1x64 : Shape := ⟨2, ![1, 64]⟩
abbrev S8x14x128x64 : Shape := ⟨4, ![8, 14, 128, 64]⟩
abbrev S1x1x1x64 : Shape := ⟨4, ![1, 1, 1, 64]⟩
abbrev S64x64x1x1 : Shape := ⟨4, ![64, 64, 1, 1]⟩
abbrev S8x64x128 : Shape := ⟨3, ![8, 64, 128]⟩
abbrev S8x16x128x64 : Shape := ⟨4, ![8, 16, 128, 64]⟩
abbrev S8x64x128x1 : Shape := ⟨4, ![8, 64, 128, 1]⟩
abbrev S8x64x128x2 : Shape := ⟨4, ![8, 64, 128, 2]⟩
abbrev S8x128x64x2 : Shape := ⟨4, ![8, 128, 64, 2]⟩
abbrev S8x2x128x64 : Shape := ⟨4, ![8, 2, 128, 64]⟩
abbrev S2048x64 : Shape := ⟨2, ![2048, 64]⟩
abbrev S2048x1 : Shape := ⟨2, ![2048, 1]⟩
abbrev S2048 : Shape := ⟨1, ![2048]⟩
abbrev S8x128x2 : Shape := ⟨3, ![8, 128, 2]⟩
abbrev S8x128 : Shape := ⟨2, ![8, 128]⟩
abbrev S8x128x1 : Shape := ⟨3, ![8, 128, 1]⟩

abbrev nBuf : Space → Nat
  | .hbm => 250
  | .vmem => 0
  | .smem => 0
  | _ => 0

abbrev hbmTy0_0 (i : Nat) : BufTy := match i % 128 with
  | 0 => ⟨S8x12x64x128, .f32⟩
  | 1 => ⟨S64x64, .f32⟩
  | 2 => ⟨S12x128x128, .f32⟩
  | 3 => ⟨S_, .i32⟩
  | 4 => ⟨S_, .i32⟩
  | 5 => ⟨S_, .i32⟩
  | 6 => ⟨S12x128x128, .f32⟩
  | 7 => ⟨S64x64, .f32⟩
  | 8 => ⟨S64, .f32⟩
  | 9 => ⟨S64x64, .f32⟩
  | 10 => ⟨S64, .f32⟩
  | 11 => ⟨S64x64x1x3, .f32⟩
  | 12 => ⟨S64, .f32⟩
  | 13 => ⟨S64x64x1x3, .f32⟩
  | 14 => ⟨S64, .f32⟩
  | 15 => ⟨S64x64, .f32⟩
  | 16 => ⟨S64, .f32⟩
  | 17 => ⟨S64x1, .f32⟩
  | 18 => ⟨S8x12x128x64, .f32⟩
  | 19 => ⟨S8x1x128x64, .f32⟩
  | 20 => ⟨S8x128x64, .f32⟩
  | 21 => ⟨S8x128x64, .f32⟩
  | 22 => ⟨S8x12x128x128, .f32⟩
  | 23 => ⟨S_, .f32⟩
  | 24 => ⟨S8x12x128x128, .f32⟩
  | 25 => ⟨S8x12x128x128, .f32⟩
  | 26 => ⟨S_, .f32⟩
  | 27 => ⟨S8x12x128, .f32⟩
  | 28 => ⟨S_, .f32⟩
  | 29 => ⟨S8x12x128, .f32⟩
  | 30 => ⟨S8x12x128, .f32⟩
  | 31 => ⟨S8x12x128x1, .f32⟩
  | 32 => ⟨S8x12x128x128, .f32⟩
  | 33 => ⟨S8x12x128x128, .f32⟩
  | 34 => ⟨S8x12x128x128, .f32⟩
  | 35 => ⟨S_, .f32⟩
  | 36 => ⟨S8x12x128, .f32⟩
  | 37 => ⟨S8x12x128x1, .f32⟩
  | 38 => ⟨S8x12x128x128, .f32⟩
  | 39 => ⟨S8x12x128x128, .f32⟩
  | 40 => ⟨S1x12x128x128, .f32⟩
  | 41 => ⟨S8x12x128x128, .f32⟩
  | 42 => ⟨S8x12x128x128, .f32⟩
  | 43 => ⟨S8x12x128x64, .f32⟩
  | 44 => ⟨S96x128x64, .f32⟩
  | 45 => ⟨S12288x64, .f32⟩
  | 46 => ⟨S12288x64, .f32⟩
  | 47 => ⟨S128, .i32⟩
  | 48 => ⟨S128x128, .i32⟩
  | 49 => ⟨S16384, .i32⟩
  | 50 => ⟨S128, .i32⟩
  | 51 => ⟨S1x128, .i32⟩
  | 52 => ⟨S128x128, .i32⟩
  | 53 => ⟨S16384, .i32⟩
  | 54 => ⟨S96, .i32⟩
  | 55 => ⟨S_, .i32⟩
  | 56 => ⟨S96, .i32⟩
  | 57 => ⟨S96, .i32⟩
  | 58 => ⟨S96x1, .i32⟩
  | 59 => ⟨S1x16384, .i32⟩
  | 60 => ⟨S96x16384, .i32⟩
  | 61 => ⟨S96x16384, .i32⟩
  | 62 => ⟨S96x16384, .i32⟩
  | 63 => ⟨S1572864, .i32⟩
  | 64 => ⟨S1x16384, .i32⟩
  | 65 => ⟨S96x16384, .i32⟩
  | 66 => ⟨S96x16384, .i32⟩
  | 67 => ⟨S96x16384, .i32⟩
  | 68 => ⟨S1572864, .i32⟩
  | 69 => ⟨S_, .i32⟩
  | 70 => ⟨S1572864, .i32⟩
  | 71 => ⟨S1572864, .i1⟩
  | 72 => ⟨S_, .i32⟩
  | 73 => ⟨S1572864, .i32⟩
  | 74 => ⟨S1572864, .i32⟩
  | 75 => ⟨S1572864, .i32⟩
  | 76 => ⟨S1572864x1, .i32⟩
  | 77 => ⟨S1, .i32⟩
  | 78 => ⟨S_, .i32⟩
  | 79 => ⟨S1572864x1, .i32⟩
  | 80 => ⟨S1572864x1, .i1⟩
  | 81 => ⟨S1x1, .i32⟩
  | 82 => ⟨S1572864x1, .i32⟩
  | 83 => ⟨S1572864x1, .i1⟩
  | 84 => ⟨S1572864x1, .i1⟩
  | 85 => ⟨S_, .i1⟩
  | 86 => ⟨S1572864, .i1⟩
  | 87 => ⟨S1572864x64, .f32⟩
  | 88 => ⟨S1572864x64, .i1⟩
  | 89 => ⟨S_, .f32⟩
  | 90 => ⟨S1572864x64, .f32⟩
  | 91 => ⟨S1572864x64, .f32⟩
  | 92 => ⟨S_, .f32⟩
  | 93 => ⟨S1572864x64, .f32⟩
  | 94 => ⟨S1572864x64, .f32⟩
  | 95 => ⟨S_, .f32⟩
  | 96 => ⟨S12288x64, .f32⟩
  | 97 => ⟨S1572864x1, .i32⟩
  | 98 => ⟨S12288x64, .f32⟩
  | 99 => ⟨S1x64, .f32⟩
  | 100 => ⟨S12288x64, .f32⟩
  | 101 => ⟨S12288x64, .f32⟩
  | 102 => ⟨S96x128x64, .f32⟩
  | 103 => ⟨S8x12x128x64, .f32⟩
  | 104 => ⟨S_, .i32⟩
  | 105 => ⟨S_, .f32⟩
  | 106 => ⟨S8x14x128x64, .f32⟩
  | 107 => ⟨S1x1x1x64, .f32⟩
  | 108 => ⟨S8x12x128x64, .f32⟩
  | 109 => ⟨S64x64x1x1, .f32⟩
  | 110 => ⟨S64x64, .f32⟩
  | 111 => ⟨S8x12x128x64, .f32⟩
  | 112 => ⟨S8x12x128x64, .f32⟩
  | 113 => ⟨S8x12x128x64, .f32⟩
  | 114 => ⟨S8x12x128x64, .f32⟩
  | 115 => ⟨S64x64x1x1, .f32⟩
  | 116 => ⟨S64x64, .f32⟩
  | 117 => ⟨S8x12x128x64, .f32⟩
  | 118 => ⟨S8x12x128x64, .f32⟩
  | 119 => ⟨S8x12x128x64, .f32⟩
  | 120 => ⟨S64x64x1x1, .f32⟩
  | 121 => ⟨S64x64, .f32⟩
  | 122 => ⟨S8x12x128x64, .f32⟩
  | 123 => ⟨S8x12x128x64, .f32⟩
  | 124 => ⟨S_, .f32⟩
  | 125 => ⟨S8x12x128x64, .f32⟩
  | 126 => ⟨S8x12x128x64, .f32⟩
  | 127 => ⟨S8x1x128x64, .f32⟩
  | _ => ⟨S8x12x64x128, .f32⟩

abbrev hbmTy0_1 (i : Nat) : BufTy := match i % 128 with
  | 0 => ⟨S8x128x64, .f32⟩
  | 1 => ⟨S8x64x128, .f32⟩
  | 2 => ⟨S8x12x64x128, .f32⟩
  | 3 => ⟨S8x12x64x128, .f32⟩
  | 4 => ⟨S8x12x128x64, .f32⟩
  | 5 => ⟨S96x128x64, .f32⟩
  | 6 => ⟨S12288x64, .f32⟩
  | 7 => ⟨S12288x64, .f32⟩
  | 8 => ⟨S128, .i32⟩
  | 9 => ⟨S128x128, .i32⟩
  | 10 => ⟨S16384, .i32⟩
  | 11 => ⟨S128, .i32⟩
  | 12 => ⟨S1x128, .i32⟩
  | 13 => ⟨S128x128, .i32⟩
  | 14 => ⟨S16384, .i32⟩
  | 15 => ⟨S96, .i32⟩
  | 16 => ⟨S_, .i32⟩
  | 17 => ⟨S96, .i32⟩
  | 18 => ⟨S96, .i32⟩
  | 19 => ⟨S96x1, .i32⟩
  | 20 => ⟨S1x16384, .i32⟩
  | 21 => ⟨S96x16384, .i32⟩
  | 22 => ⟨S96x16384, .i32⟩
  | 23 => ⟨S96x16384, .i32⟩
  | 24 => ⟨S1572864, .i32⟩
  | 25 => ⟨S1x16384, .i32⟩
  | 26 => ⟨S96x16384, .i32⟩
  | 27 => ⟨S96x16384, .i32⟩
  | 28 => ⟨S96x16384, .i32⟩
  | 29 => ⟨S1572864, .i32⟩
  | 30 => ⟨S_, .i32⟩
  | 31 => ⟨S1572864, .i32⟩
  | 32 => ⟨S1572864, .i1⟩
  | 33 => ⟨S_, .i32⟩
  | 34 => ⟨S1572864, .i32⟩
  | 35 => ⟨S1572864, .i32⟩
  | 36 => ⟨S1572864, .i32⟩
  | 37 => ⟨S1572864x1, .i32⟩
  | 38 => ⟨S1, .i32⟩
  | 39 => ⟨S_, .i32⟩
  | 40 => ⟨S1572864x1, .i32⟩
  | 41 => ⟨S1572864x1, .i1⟩
  | 42 => ⟨S1x1, .i32⟩
  | 43 => ⟨S1572864x1, .i32⟩
  | 44 => ⟨S1572864x1, .i1⟩
  | 45 => ⟨S1572864x1, .i1⟩
  | 46 => ⟨S_, .i1⟩
  | 47 => ⟨S1572864, .i1⟩
  | 48 => ⟨S1572864x64, .f32⟩
  | 49 => ⟨S1572864x64, .i1⟩
  | 50 => ⟨S_, .f32⟩
  | 51 => ⟨S1572864x64, .f32⟩
  | 52 => ⟨S1572864x64, .f32⟩
  | 53 => ⟨S_, .f32⟩
  | 54 => ⟨S1572864x64, .f32⟩
  | 55 => ⟨S1572864x64, .f32⟩
  | 56 => ⟨S_, .f32⟩
  | 57 => ⟨S12288x64, .f32⟩
  | 58 => ⟨S1572864x1, .i32⟩
  | 59 => ⟨S12288x64, .f32⟩
  | 60 => ⟨S1x64, .f32⟩
  | 61 => ⟨S12288x64, .f32⟩
  | 62 => ⟨S12288x64, .f32⟩
  | 63 => ⟨S96x128x64, .f32⟩
  | 64 => ⟨S8x12x128x64, .f32⟩
  | 65 => ⟨S_, .i32⟩
  | 66 => ⟨S_, .f32⟩
  | 67 => ⟨S8x16x128x64, .f32⟩
  | 68 => ⟨S1x1x1x64, .f32⟩
  | 69 => ⟨S8x12x128x64, .f32⟩
  | 70 => ⟨S64x64x1x1, .f32⟩
  | 71 => ⟨S64x64, .f32⟩
  | 72 => ⟨S8x12x128x64, .f32⟩
  | 73 => ⟨S8x12x128x64, .f32⟩
  | 74 => ⟨S8x12x128x64, .f32⟩
  | 75 => ⟨S8x12x128x64, .f32⟩
  | 76 => ⟨S64x64x1x1, .f32⟩
  | 77 => ⟨S64x64, .f32⟩
  | 78 => ⟨S8x12x128x64, .f32⟩
  | 79 => ⟨S8x12x128x64, .f32⟩
  | 80 => ⟨S8x12x128x64, .f32⟩
  | 81 => ⟨S64x64x1x1, .f32⟩
  | 82 => ⟨S64x64, .f32⟩
  | 83 => ⟨S8x12x128x64, .f32⟩
  | 84 => ⟨S8x12x128x64, .f32⟩
  | 85 => ⟨S_, .f32⟩
  | 86 => ⟨S8x12x128x64, .f32⟩
  | 87 => ⟨S8x12x128x64, .f32⟩
  | 88 => ⟨S8x1x128x64, .f32⟩
  | 89 => ⟨S8x128x64, .f32⟩
  | 90 => ⟨S8x64x128, .f32⟩
  | 91 => ⟨S8x12x64x128, .f32⟩
  | 92 => ⟨S8x12x64x128, .f32⟩
  | 93 => ⟨S8x64x128x1, .f32⟩
  | 94 => ⟨S8x64x128x1, .f32⟩
  | 95 => ⟨S8x64x128x2, .f32⟩
  | 96 => ⟨S8x128x64x2, .f32⟩
  | 97 => ⟨S8x2x128x64, .f32⟩
  | 98 => ⟨S2048x64, .f32⟩
  | 99 => ⟨S2048x64, .f32⟩
  | 100 => ⟨S1x64, .f32⟩
  | 101 => ⟨S2048x64, .f32⟩
  | 102 => ⟨S2048x64, .f32⟩
  | 103 => ⟨S2048x64, .f32⟩
  | 104 => ⟨S2048x1, .f32⟩
  | 105 => ⟨S2048, .f32⟩
  | 106 => ⟨S8x128x2, .f32⟩
  | 107 => ⟨S_, .f32⟩
  | 108 => ⟨S8x128, .f32⟩
  | 109 => ⟨S_, .f32⟩
  | 110 => ⟨S8x128, .f32⟩
  | 111 => ⟨S8x128, .f32⟩
  | 112 => ⟨S8x128x1, .f32⟩
  | 113 => ⟨S8x128x2, .f32⟩
  | 114 => ⟨S8x128x2, .f32⟩
  | 115 => ⟨S8x128x2, .f32⟩
  | 116 => ⟨S_, .f32⟩
  | 117 => ⟨S8x128, .f32⟩
  | 118 => ⟨S8x128x1, .f32⟩
  | 119 => ⟨S8x128x2, .f32⟩
  | 120 => ⟨S8x128x2, .f32⟩
  | 121 => ⟨S8x128x64, .f32⟩
  | _ => ⟨S8x12x64x128, .f32⟩

abbrev hbmTy (i : Nat) : BufTy := match i / 128 with
  | 0 => hbmTy0_0 i
  | 1 => hbmTy0_1 i
  | _ => ⟨S8x12x64x128, .f32⟩

abbrev bufTy : (tb : Table) → Fin (tcTables nBuf tb) → BufTy
  | .hbm, ⟨i, _⟩ => hbmTy i
  | _, _ => ⟨S8x12x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v45 : Ref sig .tc := ⟨.hbm, 91, rfl⟩
abbrev main_cst_2 : Ref sig .tc := ⟨.hbm, 92, rfl⟩
abbrev main_v46 : Ref sig .tc := ⟨.hbm, 93, rfl⟩
abbrev main_v47 : Ref sig .tc := ⟨.hbm, 94, rfl⟩
abbrev main_cst_3 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_c_4 : Ref sig .tc := ⟨.hbm, 104, rfl⟩
abbrev main_call2_v0 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_call3_cst : Ref sig .tc := ⟨.hbm, 124, rfl⟩
abbrev main_call3_v0 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_5 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_call4_c : Ref sig .tc := ⟨.hbm, 158, rfl⟩
abbrev main_call4_v0 : Ref sig .tc := ⟨.hbm, 159, rfl⟩
abbrev main_call4_v1 : Ref sig .tc := ⟨.hbm, 160, rfl⟩
abbrev main_call4_c_0 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_c_1 : Ref sig .tc := ⟨.hbm, 166, rfl⟩
abbrev main_call4_c_2 : Ref sig .tc := ⟨.hbm, 167, rfl⟩
abbrev main_call4_v6 : Ref sig .tc := ⟨.hbm, 168, rfl⟩
abbrev main_call4_v7 : Ref sig .tc := ⟨.hbm, 169, rfl⟩
abbrev main_call4_v8 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_c_3 : Ref sig .tc := ⟨.hbm, 174, rfl⟩
abbrev main_call4_v12 : Ref sig .tc := ⟨.hbm, 175, rfl⟩
abbrev main_call4_v13 : Ref sig .tc := ⟨.hbm, 176, rfl⟩
abbrev main_call4_v14 : Ref sig .tc := ⟨.hbm, 177, rfl⟩
abbrev main_call4_cst : Ref sig .tc := ⟨.hbm, 178, rfl⟩
abbrev main_call4_v15 : Ref sig .tc := ⟨.hbm, 179, rfl⟩
abbrev main_v105 : Ref sig .tc := ⟨.hbm, 180, rfl⟩
abbrev main_cst_6 : Ref sig .tc := ⟨.hbm, 181, rfl⟩
abbrev main_v106 : Ref sig .tc := ⟨.hbm, 182, rfl⟩
abbrev main_v107 : Ref sig .tc := ⟨.hbm, 183, rfl⟩
abbrev main_cst_7 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_c_8 : Ref sig .tc := ⟨.hbm, 193, rfl⟩
abbrev main_call5_v0 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_call6_cst : Ref sig .tc := ⟨.hbm, 213, rfl⟩
abbrev main_call6_v0 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_cst_9 : Ref sig .tc := ⟨.hbm, 235, rfl⟩
abbrev main_v154 : Ref sig .tc := ⟨.hbm, 236, rfl⟩
abbrev main_cst_10 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_cst_11 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩

abbrev nD : Nat := 1
abbrev τ : Topo := Topo.v7x

variable {F : FTy → Type} [FloatOps F]
-- ==== Proof.KernelRun.lean ====
/-
  The body of the kernel on any staging memrefs: what the two kinds of grid point leave in the scratch and in the output's buffer.
-/
module

public import proofs.«01_k».proof.Proof.Gen.KernelIdeal.Frame
public import proofs.«01_k».proof.Proof.Gen.KernelIdeal.Skeleton
public import Idealize.ShloMosaic.Lib.Tactic
public import Idealize.ShloMosaic.Lib.Exec
public import Idealize.ShloMosaic.Lib.WritesUnit
public import Idealize.ShloMosaic.Lib.ValueIdxCore
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ (UR sig nD τ) ℕ

/-- Zero offsets on three and on four axes. -/
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl

/-- The scratch after the body has put its own 32 rows `u` at the point's offset over what it found there, `d`. -/
def mix (i : grid0.Coords) (d : Vec F S64x64 .f32) (u : Vec F S32x64 .f32) : Vec F S64x64 .f32 :=
  fun j => if h : 32 * (i 0).val ≤ (j 0).val ∧ (j 0).val < 32 * (i 0).val + 32 then
    u (ix2 (n0 := 32) (n1 := 64) ⟨(j 0).val - 32 * (i 0).val, by omega⟩ (j 1)) else d j

/-- The offset of the point's rows in the scratch, in closed form. -/
theorem off1_eq (i : grid0.Coords) : k0_off1 i = ![32 * (i 0).val, 0] := by
  have hi : (i 0).val < 2 := (i 0).isLt
  unfold k0_off1
  funext a
  match a with
  | ⟨0, _⟩ =>
    show (Scalar.indexCast (Scalar.muli (BitVec.ofNat 32 (i 0).val) 32#32)).toNat = 32 * (i 0).val
    generalize (i 0).val = n at hi ⊢
    interval_cases n <;> decide
  | ⟨1, _⟩ => rfl

/-- Reading the scratch after the point's store finds `mix`. -/
theorem read_mix (i : grid0.Coords) (M : Memref sig .tc .vmem S64x64 .f32) (hM : M.IsWhole) (d : Vec F S64x64 .f32) (u : Vec F S32x64 .f32) :
    View.read (Elt F) M.view (M.view.writes (Elt F) (hM.unread d) [⟨Rect.unit (k0_off1 i) S32x64.size (k0_off1_inb i), u⟩]) = mix i d u := by
  funext j
  unfold mix
  by_cases h : 32 * (i 0).val ≤ (j 0).val ∧ (j 0).val < 32 * (i 0).val + 32
  · rw [dif_pos h]
    refine View.read_writes_cons_rows_of_mem (o := 32 * (i 0).val) M.view _ (k0_off1_inb i) u [] j _ (off1_eq i) ?_ rfl
    show (j 0).val = 32 * (i 0).val + ((j 0).val - 32 * (i 0).val)
    omega
  · rw [dif_neg h, View.read_writes_cons_rows_of_not_mem (o := 32 * (i 0).val) (W := 32) M.view _ (k0_off1_inb i) u [] j (off1_eq i) rfl (by omega)]
    exact congrFun (hM.read_unread d) j

/-- What the last point computes from the scratch of means `sc` and the packed weights `x2`: the two layers, then the pooled broadcast. -/
def out (sc : Vec F S64x64 .f32) (x2 : Vec F S528x64 .f32) : Vec F S8x128x64 .f32 :=
  let v36 : Vec F S64x64 .f32 := View.ld x2 (Rect.unit (s := S528x64) ![0, 0] S64x64.size inb_S528x64_S64x64_0_0)
  let v38 : Vec F S1x64 .f32 := View.ld x2 (Rect.unit (s := S528x64) ![512, 0] S1x64.size inb_S528x64_S1x64_512_0)
  let v41 : Vec F S1x64 .f32 := View.ld x2 (Rect.unit (s := S528x64) ![514, 0] S1x64.size inb_S528x64_S1x64_514_0)
  let v43 : Vec F S64x64 .f32 := View.ld x2 (Rect.unit (s := S528x64) ![128, 0] S64x64.size inb_S528x64_S64x64_128_0)
  let v66 : Vec F S64x64 .f32 := View.ld x2 (Rect.unit (s := S528x64) ![192, 0] S64x64.size inb_S528x64_S64x64_192_0)
  let v88 : Vec F S64x64 .f32 := View.ld x2 (Rect.unit (s := S528x64) ![256, 0] S64x64.size inb_S528x64_S64x64_256_0)
  let v107 : Vec F S64x64 .f32 := View.ld x2 (Rect.unit (s := S528x64) ![64, 0] S64x64.size inb_S528x64_S64x64_64_0)
  let v109 : Vec F S1x64 .f32 := View.ld x2 (Rect.unit (s := S528x64) ![513, 0] S1x64.size inb_S528x64_S1x64_513_0)
  let v112 : Vec F S1x64 .f32 := View.ld x2 (Rect.unit (s := S528x64) ![515, 0] S1x64.size inb_S528x64_S1x64_515_0)
  let v114 : Vec F S64x64 .f32 := View.ld x2 (Rect.unit (s := S528x64) ![320, 0] S64x64.size inb_S528x64_S64x64_320_0)
  let v137 : Vec F S64x64 .f32 := View.ld x2 (Rect.unit (s := S528x64) ![384, 0] S64x64.size inb_S528x64_S64x64_384_0)
  let v159 : Vec F S64x64 .f32 := View.ld x2 (Rect.unit (s := S528x64) ![448, 0] S64x64.size inb_S528x64_S64x64_448_0)
  let v177 : Vec F S8x64 .f32 := View.ld x2 (Rect.unit (s := S528x64) ![520, 0] S8x64.size inb_S528x64_S8x64_520_0)
  let v87 := k0_pay12 k0_pay3 (k0_pay5 v38) (k0_pay7 v41) (k0_pay9 v38 v43) v66
  let v91 := k0_pay14 (k0_pay5 v38) v88
  let v93 := k0_pay15 k0_pay3 sc (k0_pay4 v36) (k0_pay6 (F := F)) (k0_pay10 sc v36 v43) v66 v88
  let v95 := k0_pay16 k0_pay3
  let z : F .f32 := Scalar.ofBits .f32 0x00000000#32
  k0_pay2 (k0_pay17 v87 v91 v93 v95 z)
    (k0_pay24 k0_pay3 (k0_pay18 sc v87 v91 v93 v95 z) (k0_pay19 v107) (k0_pay20 v109)
      (k0_pay22 k0_pay3 sc v87 v91 v93 v95 z v107 v114) (k0_pay23 k0_pay3 v109 v112 v114) v137 v159)
    v177

/-- At a point that is not the last one the body puts the means of its rows into the scratch and touches nothing else. -/
theorem run_A (c : Dev nD) (i : grid0.Coords) (arg1 : Memref sig .tc .vmem S4x4x64x128 .f32) (harg1 : arg1.IsWhole) (arg2 : Memref sig .tc .vmem S4x4x64x128 .f32) (harg2 : arg2.IsWhole) (arg3 : Memref sig .tc .vmem S528x64 .f32) (harg3 : arg3.IsWhole)
    (arg4 : Memref sig .tc .vmem S8x128x64 .f32) (harg4 : arg4.IsWhole) (arg5 : Memref sig .tc .vmem S64x64 .f32) (harg5 : arg5.IsWhole) (hc0 : ¬k0_cond1 i = 1#1)
    (x0 x1 : Vec F S4x4x64x128 .f32) (x2 : Vec F S528x64 .f32) (x3 : Vec F S8x128x64 .f32) (d : Vec F S64x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (mix i d (k0_pay1 x0 x1))) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; · iexact H4
  ipureintro
  simp only [View.readAt_eq_ld, harg1.read_unread, harg2.read_unread, View.ld_unit_zero (S := S4x4x64x128) hz4]
  exact read_mix i arg5 harg5 d _

/-- At the last point the body puts the means of its rows into the scratch and the result of both layers and the pooling into the output. -/
theorem run_B (c : Dev nD) (i : grid0.Coords) (arg1 : Memref sig .tc .vmem S4x4x64x128 .f32) (harg1 : arg1.IsWhole) (arg2 : Memref sig .tc .vmem S4x4x64x128 .f32) (harg2 : arg2.IsWhole) (arg3 : Memref sig .tc .vmem S528x64 .f32) (harg3 : arg3.IsWhole)
    (arg4 : Memref sig .tc .vmem S8x128x64 .f32) (harg4 : arg4.IsWhole) (arg5 : Memref sig .tc .vmem S64x64 .f32) (harg5 : arg5.IsWhole) (hc0 : k0_cond1 i = 1#1)
    (x0 x1 : Vec F S4x4x64x128 .f32) (x2 : Vec F S528x64 .f32) (x3 : Vec F S8x128x64 .f32) (d : Vec F S64x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d
        ∗ (iprop(owns (c : Thread nD τ) arg1 fullShare x0 ∗ owns (c : Thread nD τ) arg2 fullShare x1 ∗ owns (c : Thread nD τ) arg3 fullShare x2 ∗ owns (c : Thread nD τ) arg4 fullShare (out (mix i d (k0_pay1 x0 x1)) x2) ∗ owns (c : Thread nD τ) arg5 fullShare (mix i d (k0_pay1 x0 x1))) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    sl_unfold_words
    rw [View.read_writes_eq_canon _ _ _ (fun y => ⟨_, List.mem_singleton_self _, by
      rw [Rect.mem_set_unit]; intro a; have := (y a).isLt; fin_cases a <;> exact ⟨Nat.zero_le _, by simpa using this⟩⟩)]
    rw [View.canon_unit_zero hz3]
    simp only [View.readAt_eq_ld, harg1.read_unread, harg2.read_unread, harg3.read_unread, View.ld_unit_zero (S := S4x4x64x128) hz4,
      View.ld_unit_zero (S := S64x64) hz2]
    rw [← read_mix i arg5 harg5 d]
    rfl
  iexists _; isplitr; swap; · iexact H4
  ipureintro
  sl_unfold_words
  simp only [View.readAt_eq_ld, harg1.read_unread, harg2.read_unread, View.ld_unit_zero (S := S4x4x64x128) hz4]
  exact read_mix i arg5 harg5 d _

end Cert.KernelIdeal.Body

end
-- ==== Proof.KernelFrame.lean ====
/-
  The kernel's run: the scratch of means is carried from the first grid point to the last, the output is written at the last.
-/
module

public import proofs.«01_k».proof.Proof.KernelRun
public import Idealize.ShloMosaic.Lib.Pipeline.Value
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two grid points -/

/-- The body's branch is taken at the last point only. -/
theorem cond_last : ∀ t : Fin cfg0.N, k0_cond1 (grid0.coords t) = 1#1 ↔ t.val % 2 = 1 :=
  (fun t => by
    have ht : t.val < 2 := Nat.lt_of_lt_of_eq t.isLt N_0
    have e0 : (grid0.coords t 0).val = t.val / 1 % 2 := Pipeline.Grid.coords_val t 0 (by decide) rfl
    simp only [k0_cond1, e0]
    word_cmp
   : ∀ t : Fin grid0.N, k0_cond1 (grid0.coords t) = 1#1 ↔ t.val % 2 = 1)

/-- A point's grid coordinate is its number. -/
theorem coord_eq (t : Fin cfg0.N) : (grid0.coords t 0).val = t.val := by
  have ht : t.val < 2 := Nat.lt_of_lt_of_eq t.isLt N_0
  have e0 : (grid0.coords t 0).val = t.val / 1 % 2 := Pipeline.Grid.coords_val t 0 (by decide) rfl
  omega

/-- The first grid point. -/
def p0 : Fin cfg0.N := t0_0
/-- The last grid point. -/
def p1 : Fin cfg0.N := t0_1

theorem eq_p0 (t : Fin cfg0.N) (h : ¬t.val % 2 = 1) : t = p0 := by
  have ht : t.val < 2 := Nat.lt_of_lt_of_eq t.isLt N_0
  exact Fin.ext (show t.val = 0 by omega)
theorem eq_p1 (t : Fin cfg0.N) (h : t.val % 2 = 1) : t = p1 := by
  have ht : t.val < 2 := Nat.lt_of_lt_of_eq t.isLt N_0
  exact Fin.ext (show t.val = 1 by omega)

/-- Each window's current staging buffer at a point, as the body is handed it. -/
abbrev st0 (t : Fin cfg0.N) : Memref sig .tc .vmem S4x4x64x128 .f32 := win0_0.stage (cfg0.slots t 0)
abbrev st1 (t : Fin cfg0.N) : Memref sig .tc .vmem S4x4x64x128 .f32 := win0_1.stage (cfg0.slots t 1)
abbrev st2 (t : Fin cfg0.N) : Memref sig .tc .vmem S528x64 .f32 := win0_2.stage (cfg0.slots t 2)
abbrev st3 (t : Fin cfg0.N) : Memref sig .tc .vmem S8x128x64 .f32 := win0_3.stage (cfg0.slots t 3)
/-- The scratch, whole. -/
abbrev scr : Memref sig .tc .vmem S64x64 .f32 := Memref.whole cc0_scratch0

/-- The 32 rows of means that point `t` computes from its two blocks. -/
def rows (c : Dev nD) (t : Fin cfg0.N) : Vec F S32x64 .f32 := k0_pay1 (iblk m c 0 t) (iblk m c 1 t)

/-- The scratch after the last point: both points' rows, over anything. -/
def means (c : Dev nD) (d : Vec F S64x64 .f32) : Vec F S64x64 .f32 :=
  mix (grid0.coords p1) (mix (grid0.coords p0) d (rows m c p0)) (rows m c p1)

/-- The two points' rows cover the scratch, so what it held before does not matter. -/
theorem means_eq (c : Dev nD) (d d' : Vec F S64x64 .f32) : means m c d = means m c d' := by
  funext j
  have hj : (j 0).val < 64 := (j 0).isLt
  unfold means mix
  by_cases h1 : 32 * (grid0.coords p1 0).val ≤ (j 0).val ∧ (j 0).val < 32 * (grid0.coords p1 0).val + 32
  · rw [dif_pos h1, dif_pos h1]
  · have h0 : 32 * (grid0.coords p0 0).val ≤ (j 0).val ∧ (j 0).val < 32 * (grid0.coords p0 0).val + 32 := by
      rw [coord_eq] at h1 ⊢
      rw [show p1.val = 1 from rfl] at h1; rw [show p0.val = 0 from rfl]; omega
    rw [dif_neg h1, dif_neg h1, dif_pos h0, dif_pos h0]

/-- The zero scratch, to name the contents with. -/
def zed : Vec F S64x64 .f32 := broadcast S64x64 (Scalar.ofBits .f32 0x00000000#32)

/-- The result the last point computes. -/
def final (c : Dev nD) : Vec F S8x128x64 .f32 := out (means m c zed) (iblk m c 2 p1)

/-! ## The invariant between the points and the proof data -/

/-- Between the two points the scratch holds the first point's rows; at entry and exit, anything. -/
def Phi (c : Dev nD) (s : Fin (cfg0.N + 1)) : sProp 𝕄 :=
  if s.val = 1 then
    iprop(iprop((∃ d, owns (c : Thread nD τ) scr fullShare (mix (grid0.coords p0) d (rows m c p0)))) ∗ (∃ r, prngReg c r))
  else Pipeline.ΦA spec0 c

/-- The invariant at entry and exit: the scratch at some contents, and the generator register. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The arrays as the launch finds them, what the body leaves in each window, the invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => final m c
  Φ s := Phi m c s
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = final m c := by dsimp only [dats]
theorem Phi_eq (c : Dev nD) (s : Fin (cfg0.N + 1)) : (dats m 0 c).Φ s = Phi m c s := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem Phi_p0 (c : Dev nD) : Phi m c p0.castSucc = iprop(iprop((∃ d, owns (c : Thread nD τ) scr fullShare d)) ∗ (∃ r, prngReg c r)) := by
  unfold Phi; rw [if_neg (show ¬(p0.castSucc).val = 1 from by decide), PhiA_eq]
theorem Phi_p0' (c : Dev nD) : Phi m c p0.succ = iprop(iprop((∃ d, owns (c : Thread nD τ) scr fullShare (mix (grid0.coords p0) d (rows m c p0)))) ∗ (∃ r, prngReg c r)) := by
  unfold Phi; rw [if_pos (show (p0.succ).val = 1 from by decide)]
theorem Phi_p1 (c : Dev nD) : Phi m c p1.castSucc = iprop(iprop((∃ d, owns (c : Thread nD τ) scr fullShare (mix (grid0.coords p0) d (rows m c p0)))) ∗ (∃ r, prngReg c r)) := by
  unfold Phi; rw [if_pos (show (p1.castSucc).val = 1 from by decide)]
theorem Phi_p1' (c : Dev nD) : Phi m c p1.succ = iprop(iprop((∃ d, owns (c : Thread nD τ) scr fullShare d)) ∗ (∃ r, prngReg c r)) := by
  unfold Phi; rw [if_neg (show ¬(p1.succ).val = 1 from by decide), PhiA_eq]

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 800000 in
/-- The body at either point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, Phi_eq]
  rw [show (dats m 0 c).owesAt () t.succ = (dats m 0 c).owesAt () t.castSucc from rfl]
  by_cases h0 : t.val % 2 = 1
  · have hlive : cfg0.idle 3 (cfg0.grid.coords t) = false := by
      show (!(k0_cond1 (grid0.coords t) == 1#1)) = false
      rw [(cond_last t).mpr h0]; rfl
    rw [show (dats m 0 c).leavesExact 0 t = owns (c : Thread nD τ) (st0 t) fullShare ((dats m 0 c).after 0 t) from by
      unfold Dat.leavesExact; rw [show cfg0.idle 0 (cfg0.grid.coords t) = false from rfl], after0]
    rw [show (dats m 0 c).leavesExact 1 t = owns (c : Thread nD τ) (st1 t) fullShare ((dats m 0 c).after 1 t) from by
      unfold Dat.leavesExact; rw [show cfg0.idle 1 (cfg0.grid.coords t) = false from rfl], after1]
    rw [show (dats m 0 c).leavesExact 2 t = owns (c : Thread nD τ) (st2 t) fullShare ((dats m 0 c).after 2 t) from by
      unfold Dat.leavesExact; rw [show cfg0.idle 2 (cfg0.grid.coords t) = false from rfl], after2]
    rw [show (dats m 0 c).leavesExact 3 t = owns (c : Thread nD τ) (st3 t) fullShare ((dats m 0 c).after 3 t) from by
      unfold Dat.leavesExact; rw [hlive], after3]
    have hc := (cond_last t).mpr h0
    obtain rfl := eq_p1 t h0
    rw [Phi_p1, Phi_p1']
    iintro ⟨⟨⟨%d, HS0⟩, Hg⟩, Ho, ⟨%d0, H0⟩, ⟨%d1, H1⟩, ⟨%d2, H2⟩, ⟨%d3, H3⟩⟩
    iapply (run_B c (grid0.coords p1) _ _ _ _ _ _ _ _ _ _ hc (iblk m c 0 p1) (iblk m c 1 p1) (iblk m c 2 p1) _ _ Set.univ _)
    isplitl [H0]; · iexact H0
    isplitl [H1]; · iexact H1
    isplitl [H2]; · iexact H2
    isplitl [H3]; · iexact H3
    isplitl [HS0]; · iexact HS0
    rw [show out (mix (grid0.coords p1) (mix (grid0.coords p0) d (rows m c p0)) (k0_pay1 (iblk m c 0 p1) (iblk m c 1 p1))) (iblk m c 2 p1) = final m c from
      congrArg (fun z => out z (iblk m c 2 p1)) (means_eq m c d zed)]
    iintro ⟨H0, H1, H2, H3, HS0⟩
    isplitl [HS0 Hg]
    · isplitl [HS0]
      · iexists _; iexact HS0
      iexact Hg
    isplitl [Ho]; · iexact Ho
    isplitl [H0]; · iexact H0
    isplitl [H1]; · iexact H1
    isplitl [H2]; · iexact H2
    iexact H3
  · have hidle : cfg0.idle 3 (cfg0.grid.coords t) = true := by
      show (!(k0_cond1 (grid0.coords t) == 1#1)) = true
      rw [beq_eq_false_iff_ne.mpr (fun h => h0 ((cond_last t).mp h))]; rfl
    have hflush : (cfg0.win 3).flush t = false := by
      rw [← Bool.not_eq_true]; exact fun h => h0 ((flush0_3 t).mp h)
    rw [show (dats m 0 c).leavesExact 0 t = owns (c : Thread nD τ) (st0 t) fullShare ((dats m 0 c).after 0 t) from by
      unfold Dat.leavesExact; rw [show cfg0.idle 0 (cfg0.grid.coords t) = false from rfl], after0]
    rw [show (dats m 0 c).leavesExact 1 t = owns (c : Thread nD τ) (st1 t) fullShare ((dats m 0 c).after 1 t) from by
      unfold Dat.leavesExact; rw [show cfg0.idle 1 (cfg0.grid.coords t) = false from rfl], after1]
    rw [show (dats m 0 c).leavesExact 2 t = owns (c : Thread nD τ) (st2 t) fullShare ((dats m 0 c).after 2 t) from by
      unfold Dat.leavesExact; rw [show cfg0.idle 2 (cfg0.grid.coords t) = false from rfl], after2]
    rw [show (dats m 0 c).leavesExact 3 t = iprop(∃ d, owns (c : Thread nD τ) (st3 t) fullShare ((dats m 0 c).before 3 t d)) from by
      unfold Dat.leavesExact; rw [hidle, hflush]]
    have hc := fun h => h0 ((cond_last t).mp h)
    obtain rfl := eq_p0 t h0
    rw [Phi_p0, Phi_p0']
    iintro ⟨⟨⟨%d, HS0⟩, Hg⟩, Ho, ⟨%d0, H0⟩, ⟨%d1, H1⟩, ⟨%d2, H2⟩, ⟨%d3, H3⟩⟩
    iapply (run_A c (grid0.coords p0) _ _ _ _ _ _ _ _ _ _ hc (iblk m c 0 p0) (iblk m c 1 p0) (iblk m c 2 p0) _ _ Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; iexact HS0
      iexact Hg
    isplitl [Ho]; · iexact Ho
    isplitl [H0]; · iexact H0
    isplitl [H1]; · iexact H1
    isplitl [H2]; · iexact H2
    iexists _; iexact H3

/-- The body table's row at a point's slots is the body there. -/
theorem defs_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run, the frame, the result array -/

set_option backward.isDefEq.respectTransparency.types false in
/-- The launch: every array ends at what the proof data say, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => by rw [Phi_eq]; unfold Phi; rw [if_neg (by decide)])
    (hout := fun c => by
      rw [Phi_eq]; unfold Phi
      rw [if_neg (show ¬(Fin.last (cfgs 0).N).val = 1 from by rw [show (Fin.last (cfgs 0).N).val = 2 from N_0]; decide)])

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- The frame: the program runs, its arguments end unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

/-- The write-back at the last point writes the result: the output's one block is its whole array. -/
theorem flushed_eq (c : Dev nD) (t : Fin cfg0.N) (hf : (cfg0.win 3).flush t = true) :
    (dats m 0 c).flushed 3 t = ((cfg0.win 3).blk t).view.read (Elt F) (final m c : Buf (Elt F) ((c : Thread nD τ).loc main_v12)) := by
  show (cfg0.win 3).cut (grid0.coords t) ((dats m 0 c).after 3 t) = _
  rw [after3]
  have hz' : (fun a => win0_3.index t a * main_v12.ty.shape.size a) = fun _ => 0 := funext fun a => by fin_cases a <;> exact Nat.zero_mul _
  exact (Memref.read_access_unit_zero (Elt F) main_v12 hz' (fun a => by rw [congrFun hz' a]; simp) (final m c)).symm

/-- So the result array ends at the result. -/
theorem arr_final (c : Dev nD) : (dats m 0 c).arrAt 3 cfg0.N = final m c :=
  (dats m 0 c).arrAt_eq_of_cover 3 (final m c) (flushed_eq m c) fun i =>
    ⟨p1, (flush0_3 p1).mpr rfl, by
      show i ∈ ((View.whole main_v12).slice (win0_3.rect p1)).set
      rw [View.set_slice_whole, Rect.mem_set_unit]
      intro a
      have h0 : (i 0 : Nat) < 8 := (i 0).isLt
      have h1 : (i 1 : Nat) < 128 := (i 1).isLt
      have h2 : (i 2 : Nat) < 64 := (i 2).isLt
      match a with
      | ⟨0, _⟩ => exact ⟨(Nat.zero_mul _).le.trans (Nat.zero_le _), by show (i 0 : Nat) < 0 * 8 + 8; omega⟩
      | ⟨1, _⟩ => exact ⟨(Nat.zero_mul _).le.trans (Nat.zero_le _), by show (i 1 : Nat) < 0 * 128 + 128; omega⟩
      | ⟨2, _⟩ => exact ⟨(Nat.zero_mul _).le.trans (Nat.zero_le _), by show (i 2 : Nat) < 0 * 64 + 64; omega⟩⟩

/-- The run with its result read: the result array at `final`, the arguments unchanged. -/
theorem run : θ_run defs (onTc (τ := τ) (main (F := F))) ⟨m, fun _ => 0, ρ⟩ (fun r => ∀ c : Dev nD,
      r.2.mem ((c.tc : Thread nD τ).loc main_v12) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨h.1 c, h.2 c⟩)
    (θ_run_and (Q₁ := fun r => ∀ c : Dev nD, r.2.mem ((c.tc : Thread nD τ).loc main_v12) = final m c)
      ((θ_run defs _ _).mono (fun _ h c => ((h c).1 3).trans (arr_final m c)) (run_main m ρ)) (unchanged m ρ))

end Cert.KernelIdeal.Body

end
-- ==== Proof.KernelWords.lean ====
/-
  The frame of the kernel over words. Nothing was rewritten in the idealized kernel, so the two programs are the same one, and
  the frame of the idealized kernel, proved for any floats, is the kernel's.
-/
module

public import proofs.«01_k».proof.Defs
public import proofs.«01_k».proof.Proof.Gen.Kernel
public import proofs.«01_k».proof.Proof.KernelFrame

@[expose] public section

noncomputable section

namespace Cert.Kernel.Words

open Idealize.ShloMosaic Idealize.SL.Sem
open Cert.Kernel.Gen Cert.KernelIdeal.Gen

variable {F : FTy → Type} [FloatOps F]

/-- The two programs call the same body. -/
theorem bodies_eq : Cert.Kernel.defs₀ (F := F) = Cert.KernelIdeal.defs₀ (F := F) := by
  refine congrArg Defs.onTc ?_
  funext a x
  match a, x with
  | 0, (t, s) => rfl

/-- The two programs' definitions, the body in its pipeline, are the same. -/
theorem defs_eq : Cert.Kernel.defs (F := F) = Cert.KernelIdeal.defs (F := F) :=
  congrArg (Pipeline.defs Cert.KernelIdeal.pcfgs) bodies_eq

/-- The kernel runs to its end, its arguments unchanged and its semaphores at zero. -/
theorem frame : Cert.quiescent_Kernel (hKernel := Cert.Kernel.Gen.facts) := fun m ρ _ => by
  rw [defs_eq]
  exact Cert.KernelIdeal.Body.frame (F := Bits) m ρ

end Cert.Kernel.Words
-- ==== Proof.Gcn.lean ====
/-
  One layer of the network on extended reals, in two forms: the plain one (rows times a matrix at every node, the mean over the
  nodes, the bias, the taps of the convolution, its bias, the cut at zero) and the folded one (the mean first, the two matrices
  multiplied, the images of the bias apart). They agree on finite rows and matrices, whatever the biases are.
-/
module

public import Mathlib.Data.EReal.Operations
public import Mathlib.Data.EReal.Inv
public import Mathlib.Algebra.BigOperators.Ring.Finset
public import Mathlib.Tactic.Ring
public import Mathlib.Tactic.Abel
public import Idealize.ShloMosaic.PureOps.Ideal

@[expose] public section

noncomputable section

namespace Cert.Gcn

open scoped BigOperators

/-- One graph product at a column: over the 128 nodes the sum of the rows' images times the weight `c`, plus the bias. -/
def graph (c : EReal) (x : Fin 64 → Fin 128 → EReal) (w : Fin 64 → Fin 64 → EReal) (b : Fin 64 → EReal) (g : Fin 64) : EReal :=
  (∑ a : Fin 128, (∑ f : Fin 64, x f a * w f g) * c) + b g

/-- The plain form of one layer at one time step, column `o`: the bias, the three taps on the graph products of three time
    steps, and the cut at zero. -/
def layer (c : EReal) (x : Fin 3 → Fin 64 → Fin 128 → EReal) (w : Fin 64 → Fin 64 → EReal) (m : Fin 3 → Fin 64 → Fin 64 → EReal)
    (b cb : Fin 64 → EReal) (o : Fin 64) : EReal :=
  max (cb o + (∑ g, graph c (x 0) w b g * m 0 g o) + (∑ g, graph c (x 1) w b g * m 1 g o) + (∑ g, graph c (x 2) w b g * m 2 g o)) 0

/-- The folded form of one layer at one row, column `o`: three taps, each a row times the product of the layer's two
    matrices; the bias of the convolution and the three images of the first product's bias; and the cut at zero. -/
def folded (x : Fin 3 → Fin 64 → EReal) (w : Fin 64 → Fin 64 → EReal) (m : Fin 3 → Fin 64 → Fin 64 → EReal)
    (b cb : Fin 64 → EReal) (o : Fin 64) : EReal :=
  max (((∑ f, x 0 f * ∑ g, w f g * m 0 g o) + (∑ f, x 1 f * ∑ g, w f g * m 1 g o) + (∑ f, x 2 f * ∑ g, w f g * m 2 g o))
    + (cb o + (∑ g, b g * m 0 g o) + (∑ g, b g * m 1 g o) + (∑ g, b g * m 2 g o))) 0

/-- A sum of reals is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real factor distributes over a sum whose first summand is real. -/
theorem real_add_mul (u m : ℝ) (b : EReal) : ((u : EReal) + b) * m = (u : EReal) * m + b * m := by
  induction b with
  | coe b => norm_cast; ring
  | bot =>
    rw [EReal.add_bot]
    rcases lt_trichotomy m 0 with h | h | h
    · rw [EReal.bot_mul_coe_of_neg h, ← EReal.coe_mul, EReal.coe_add_top]
    · subst h; simp
    · rw [EReal.bot_mul_coe_of_pos h, EReal.add_bot]
  | top =>
    rw [EReal.coe_add_top]
    rcases lt_trichotomy m 0 with h | h | h
    · rw [EReal.top_mul_coe_of_neg h, EReal.add_bot]
    · subst h; simp
    · rw [EReal.top_mul_coe_of_pos h, ← EReal.coe_mul, EReal.coe_add_top]

/-- The mean over the nodes. -/
def mean (x : Fin 64 → Fin 128 → ℝ) (f : Fin 64) : ℝ := (∑ a, x f a) / 128

/-- A graph product of finite rows and a finite matrix: the mean row's image plus the bias. -/
theorem graph_eq (x : Fin 64 → Fin 128 → ℝ) (w : Fin 64 → Fin 64 → ℝ) (b : Fin 64 → EReal) (g : Fin 64) :
    graph ((1 / 128 : ℝ) : EReal) (fun f a => (x f a : EReal)) (fun f g => (w f g : EReal)) b g
      = ((∑ f, mean x f * w f g : ℝ) : EReal) + b g := by
  unfold graph mean
  refine congrArg (· + b g) ?_
  simp only [← EReal.coe_mul, coe_sum]
  refine congrArg _ ?_
  simp only [Finset.sum_mul, Finset.sum_div]
  rw [Finset.sum_comm]
  refine Finset.sum_congr rfl fun f _ => Finset.sum_congr rfl fun a _ => ?_
  ring

/-- One tap on a graph product of finite rows: the folded tap plus the bias's image. -/
theorem tap_eq (x : Fin 64 → Fin 128 → ℝ) (w m : Fin 64 → Fin 64 → ℝ) (b : Fin 64 → EReal) (o : Fin 64) :
    ∑ g, graph ((1 / 128 : ℝ) : EReal) (fun f a => (x f a : EReal)) (fun f g => (w f g : EReal)) b g * (m g o : EReal)
      = (∑ f, (mean x f : EReal) * ∑ g, (w f g : EReal) * (m g o : EReal)) + ∑ g, b g * (m g o : EReal) := by
  simp only [graph_eq, real_add_mul]
  rw [Finset.sum_add_distrib]
  refine congrArg (· + _) ?_
  simp only [← EReal.coe_mul, coe_sum]
  refine congrArg _ ?_
  simp only [Finset.sum_mul, Finset.mul_sum]
  rw [Finset.sum_comm]
  refine Finset.sum_congr rfl fun f _ => Finset.sum_congr rfl fun a _ => ?_
  ring

/-- The two forms of a layer agree on finite rows and matrices, whatever the two biases are. -/
theorem layer_eq (x : Fin 3 → Fin 64 → Fin 128 → ℝ) (w : Fin 64 → Fin 64 → ℝ) (m : Fin 3 → Fin 64 → Fin 64 → ℝ)
    (b cb : Fin 64 → EReal) (o : Fin 64) :
    layer ((1 / 128 : ℝ) : EReal) (fun k f a => (x k f a : EReal)) (fun f g => (w f g : EReal)) (fun k g o => (m k g o : EReal)) b cb o
      = folded (fun k f => (mean (x k) f : EReal)) (fun f g => (w f g : EReal)) (fun k g o => (m k g o : EReal)) b cb o := by
  unfold layer folded
  simp only [tap_eq]
  refine congrArg (max · 0) ?_
  abel

/-- A folded layer of finite rows, matrices and biases is finite. -/
theorem folded_real (x : Fin 3 → Fin 64 → ℝ) (w : Fin 64 → Fin 64 → ℝ) (m : Fin 3 → Fin 64 → Fin 64 → ℝ)
    (b cb : Fin 64 → ℝ) (o : Fin 64) : ∃ r : ℝ, 0 ≤ r ∧
    folded (fun k f => (x k f : EReal)) (fun f g => (w f g : EReal)) (fun k g o => (m k g o : EReal)) (fun g => (b g : EReal))
      (fun g => (cb g : EReal)) o = (r : EReal) := by
  unfold folded
  simp only [← EReal.coe_mul, coe_sum, ← EReal.coe_add]
  exact ⟨max _ 0, le_max_right _ _, (EReal.coe_strictMono.monotone.map_max (a := _) (b := 0)).symm⟩

end Cert.Gcn
-- ==== Proof.KernelLayer.lean ====
/-
  The kernel's two layers, read at a row: the mask of a shift, the shift itself, the small products, and the two layers' rows
  as one formula in the rows they are made from.
-/
module

public import proofs.«01_k».proof.Proof.KernelRun
public import proofs.«01_k».proof.Proof.Gcn
public import Idealize.ShloMosaic.Lib.Pointwise
public import Idealize.ShloMosaic.Lib.MatmulPlain
public import Idealize.ShloMosaic.Lib.KernelVsHost
public import Idealize.ShloMosaic.Lib.Pipeline.ValueKit.Tiles

@[expose] public section

set_option maxRecDepth 16384

noncomputable section

namespace Cert.KernelIdeal.Layer

open Cert.Gcn (folded)
open Cert.KernelIdeal Cert.KernelIdeal.Gen Cert.KernelIdeal.Body
open Idealize.ShloMosaic Idealize.ShloMosaic.TcCoe
open Idealize.ShloMosaic.ValueIdx hiding ix1 ix2 ix3 ix4 ix5
open scoped BigOperators

/-- The row's time step within its group of eight, as a word. -/
theorem step_word (r : Fin 64) : k0_pay3 (ix2 (n0 := 64) (n1 := 1) r 0) = BitVec.ofNat 32 (r.val % 8) := by
  unfold k0_pay3
  pointwise
  revert r
  decide

/-- The mask of a shift by `s` is one where the time step is at least `s`. -/
theorem mask_word (r : Fin 64) (s : Fin 8) (hs : s.val ≤ r.val % 8) :
    IntOp.cmpi .sge (BitVec.ofNat 32 (r.val % 8)) (BitVec.ofNat 32 s.val) = 1#1 := by
  revert hs; revert r s
  decide

/-- A selection under a one takes its first value. -/
theorem one_select {α : Type} (x y : α) : Scalar.select 1#1 x y = x := rfl

/-- The first layer at a row whose time step is at least 2, from the rows two, one and no steps before. -/
theorem first_apply (sc w m0 m1 m2 : FVec Ideal S64x64 .f32) (b cb : FVec Ideal S1x64 .f32) (r : Fin 64) (q : Fin 3 → Fin 64)
    (h0 : (q 0).val + 2 = r.val) (h1 : (q 1).val + 1 = r.val) (h2 : q 2 = r) (hr : 2 ≤ r.val % 8) (o : Fin 64) :
    k0_pay17 (F := Ideal) (k0_pay12 k0_pay3 (k0_pay5 b) (k0_pay7 cb) (k0_pay9 b m0) m1) (k0_pay14 (k0_pay5 b) m2)
        (k0_pay15 k0_pay3 sc (k0_pay4 w) (k0_pay6 (F := Ideal)) (k0_pay10 sc w m0) m1 m2) (k0_pay16 k0_pay3)
        (Scalar.ofBits .f32 0x00000000#32) (ix2 r o)
      = folded (fun k f => sc (ix2 (q k) f)) (fun f g => w (ix2 f g))
          (fun k f g => (![m0, m1, m2] k) (ix2 f g)) (fun g => b (ix2 (0 : Fin 1) g)) (fun g => cb (ix2 (0 : Fin 1) g)) o := by
  have hp := step_word r
  have c0 : IntOp.cmpi .sge (BitVec.ofNat 32 (r.val % 8)) 2#32 = 1#1 := mask_word r 2 hr
  have c1 : IntOp.cmpi .sge (BitVec.ofNat 32 (r.val % 8)) 1#32 = 1#1 := mask_word r 1 (by show 1 ≤ _; omega)
  have c2 : IntOp.cmpi .sge (BitVec.ofNat 32 (r.val % 8)) 0#32 = 1#1 := mask_word r 0 (Nat.zero_le _)
  have e0 : (⟨(r.val + 64 - 2) % 64, Nat.mod_lt _ (by omega)⟩ : Fin 64) = q 0 := Fin.ext (by show (r.val + 64 - 2) % 64 = _; omega)
  have e1 : (⟨(r.val + 64 - 1) % 64, Nat.mod_lt _ (by omega)⟩ : Fin 64) = q 1 := Fin.ext (by show (r.val + 64 - 1) % 64 = _; omega)
  unfold k0_pay10
  generalize k0_pay3 = p at hp ⊢
  unfold_payloads
  pointwise
  rw [hp]
  simp only [c0, c1, c2, e0, e1, one_select]
  simp only [folded, h2]
  rfl

/-- The second layer at a row whose time step is at least 4, from the rows four, two and no steps before. -/
theorem second_apply (sc v87 v93 w m0 m1 m2 : FVec Ideal S64x64 .f32) (v91 b cb : FVec Ideal S1x64 .f32) (v95 : IVec S64x1 1)
    (z : Ideal .f32) (r : Fin 64) (q : Fin 3 → Fin 64)
    (h0 : (q 0).val + 4 = r.val) (h1 : (q 1).val + 2 = r.val) (h2 : q 2 = r) (hr : 4 ≤ r.val % 8) (o : Fin 64) :
    k0_pay24 (F := Ideal) k0_pay3 (k0_pay18 sc v87 v91 v93 v95 z) (k0_pay19 w) (k0_pay20 b)
      (k0_pay22 k0_pay3 sc v87 v91 v93 v95 z w m0) (k0_pay23 k0_pay3 b cb m0) m1 m2 (ix2 r o)
      = folded (fun k f => sc (ix2 (q k) f) + k0_pay17 v87 v91 v93 v95 z (ix2 (q k) f)) (fun f g => w (ix2 f g))
          (fun k f g => (![m0, m1, m2] k) (ix2 f g)) (fun g => b (ix2 (0 : Fin 1) g)) (fun g => cb (ix2 (0 : Fin 1) g)) o := by
  have hp := step_word r
  have c0 : IntOp.cmpi .sge (BitVec.ofNat 32 (r.val % 8)) 4#32 = 1#1 := mask_word r 4 hr
  have c1 : IntOp.cmpi .sge (BitVec.ofNat 32 (r.val % 8)) 2#32 = 1#1 := mask_word r 2 (by show 2 ≤ _; omega)
  have c2 : IntOp.cmpi .sge (BitVec.ofNat 32 (r.val % 8)) 0#32 = 1#1 := mask_word r 0 (Nat.zero_le _)
  have e0 : (⟨(r.val + 64 - 4) % 64, Nat.mod_lt _ (by omega)⟩ : Fin 64) = q 0 := Fin.ext (by show (r.val + 64 - 4) % 64 = _; omega)
  have e1 : (⟨(r.val + 64 - 2) % 64, Nat.mod_lt _ (by omega)⟩ : Fin 64) = q 1 := Fin.ext (by show (r.val + 64 - 2) % 64 = _; omega)
  have h18 : k0_pay18 sc v87 v91 v93 v95 z = fun j => sc j + k0_pay17 v87 v91 v93 v95 z j := rfl
  unfold k0_pay22
  rw [h18]
  generalize k0_pay17 v87 v91 v93 v95 z = c
  generalize k0_pay3 = p at hp ⊢
  unfold_payloads
  pointwise
  rw [hp]
  simp only [c0, c1, c2, e0, e1, one_select]
  simp only [folded, h2]
  rfl

/-- The last product and its repetition over the nodes, read at an index. -/
theorem last_apply (c d : FVec Ideal S64x64 .f32) (s : FVec Ideal S8x64 .f32) (b : Fin 8) (n : Fin 128) (o : Fin 64) :
    k0_pay2 (F := Ideal) c d s (ix3 b n o) = ∑ k : Fin 64, s (ix2 b k) * (c (ix2 k o) + d (ix2 k o)) := by
  unfold_payloads
  pointwise

/-- A block of the pack's rows from `off` on, read at an index. -/
theorem block_apply (x2 : Vec Ideal S528x64 .f32) (n off : Nat) (inb) (hn : off + n ≤ 528) (f : Fin n) (g : Fin 64) :
    (View.ld x2 (Rect.unit (s := S528x64) ![off, 0] ![n, 64] inb) : Vec Ideal ⟨2, ![n, 64]⟩ .f32) (ix2 f g)
      = x2 (ix2 (⟨off + f.val, by omega⟩ : Fin 528) g) :=
  View.ld_unit_apply_of _ _ _ _ _ _ fun a => by
    match a with
    | ⟨0, _⟩ => rfl
    | ⟨1, _⟩ => exact (Nat.zero_add _).symm

/-- A layer's matrix `k` of three, at the pack's rows from `off` on. -/
def taps (x2 : Vec Ideal S528x64 .f32) (off : Nat) (h : off + 192 ≤ 528) (k : Fin 3) (g o : Fin 64) : EReal :=
  x2 (ix2 (⟨off + 64 * k.val + g.val, by omega⟩ : Fin 528) o)

/-- The first layer of group `b` at time step `3 + 2 k` of the eight: the steps the second layer's last row reads. -/
def mid (sc : FVec Ideal S64x64 .f32) (x2 : Vec Ideal S528x64 .f32) (b : Fin 8) (k : Fin 3) (o : Fin 64) : EReal :=
  folded (fun k' f => sc (ix2 (⟨8 * b.val + (1 + 2 * k.val + k'.val), by omega⟩ : Fin 64) f))
    (fun f g => x2 (ix2 (⟨f.val, by omega⟩ : Fin 528) g)) (taps x2 128 (by omega))
    (fun g => x2 (ix2 (⟨512, by omega⟩ : Fin 528) g)) (fun g => x2 (ix2 (⟨514, by omega⟩ : Fin 528) g)) o

/-- The second layer of group `b` at the last time step. -/
def top (sc : FVec Ideal S64x64 .f32) (x2 : Vec Ideal S528x64 .f32) (b : Fin 8) (o : Fin 64) : EReal :=
  folded (fun k f => sc (ix2 (⟨8 * b.val + (3 + 2 * k.val), by omega⟩ : Fin 64) f) + mid sc x2 b k f)
    (fun f g => x2 (ix2 (⟨64 + f.val, by omega⟩ : Fin 528) g)) (taps x2 320 (by omega))
    (fun g => x2 (ix2 (⟨513, by omega⟩ : Fin 528) g)) (fun g => x2 (ix2 (⟨515, by omega⟩ : Fin 528) g)) o

/-- The output at an index, when row `b` of the last factor is `h` at the group's last row and zero elsewhere: `h` times the
    sum of the two layers at the last time step. -/
theorem out_apply (sc : FVec Ideal S64x64 .f32) (x2 : Vec Ideal S528x64 .f32) (b : Fin 8) (n : Fin 128) (o : Fin 64) (h : EReal)
    (hs : ∀ k : Fin 64, x2 (ix2 (⟨520 + b.val, by omega⟩ : Fin 528) k) = if k.val = 8 * b.val + 7 then h else 0) :
    out (F := Ideal) sc x2 (ix3 b n o) = h * (mid sc x2 b 2 o + top sc x2 b o) := by
  unfold out
  refine (last_apply _ _ _ b n o).trans ?_
  have hb := b.isLt
  refine (Finset.sum_eq_single (⟨8 * b.val + 7, by omega⟩ : Fin 64) ?_ fun hn => (hn (Finset.mem_univ _)).elim).trans ?_
  · intro k _ hk
    have e : (View.ld x2 (Rect.unit (s := S528x64) ![520, 0] S8x64.size inb_S528x64_S8x64_520_0) : Vec Ideal S8x64 .f32) (ix2 b k) = (0 : EReal) := by
      refine Eq.trans ?_ ((hs k).trans (if_neg fun q => hk (Fin.ext q)))
      pointwise
    rw [e, zero_mul]
  have e : (View.ld x2 (Rect.unit (s := S528x64) ![520, 0] S8x64.size inb_S528x64_S8x64_520_0) : Vec Ideal S8x64 .f32)
      (ix2 b (⟨8 * b.val + 7, by omega⟩ : Fin 64)) = h :=
    (block_apply x2 8 520 _ (by omega) b _).trans ((hs ⟨8 * b.val + 7, by omega⟩).trans (if_pos rfl))
  rw [e]
  have hmid : ∀ k : Fin 3, ∀ g : Fin 64, _ = mid sc x2 b k g := fun k g =>
    (first_apply sc
      (View.ld x2 (Rect.unit (s := S528x64) ![0, 0] S64x64.size inb_S528x64_S64x64_0_0) : Vec Ideal S64x64 .f32)
      (View.ld x2 (Rect.unit (s := S528x64) ![128, 0] S64x64.size inb_S528x64_S64x64_128_0) : Vec Ideal S64x64 .f32)
      (View.ld x2 (Rect.unit (s := S528x64) ![192, 0] S64x64.size inb_S528x64_S64x64_192_0) : Vec Ideal S64x64 .f32)
      (View.ld x2 (Rect.unit (s := S528x64) ![256, 0] S64x64.size inb_S528x64_S64x64_256_0) : Vec Ideal S64x64 .f32)
      (View.ld x2 (Rect.unit (s := S528x64) ![512, 0] S1x64.size inb_S528x64_S1x64_512_0) : Vec Ideal S1x64 .f32)
      (View.ld x2 (Rect.unit (s := S528x64) ![514, 0] S1x64.size inb_S528x64_S1x64_514_0) : Vec Ideal S1x64 .f32)
      ⟨8 * b.val + (3 + 2 * k.val), by omega⟩ (fun k' => ⟨8 * b.val + (1 + 2 * k.val + k'.val), by omega⟩)
      (by show 8 * b.val + (1 + 2 * k.val + 0) + 2 = 8 * b.val + (3 + 2 * k.val); omega)
      (by show 8 * b.val + (1 + 2 * k.val + 1) + 1 = 8 * b.val + (3 + 2 * k.val); omega)
      (Fin.ext (by show 8 * b.val + (1 + 2 * k.val + 2) = 8 * b.val + (3 + 2 * k.val); omega))
      (by show 2 ≤ (8 * b.val + (3 + 2 * k.val)) % 8; omega) g).trans (by
        unfold mid
        refine congr (congr (congr (congr (congrArg _ ?_) ?_) ?_) ?_) rfl
        · funext f g; exact (block_apply x2 64 0 _ (by omega) f g).trans (congrArg (fun r => x2 (ix2 r g)) (Fin.ext (Nat.zero_add _)))
        · funext k f g
          match k with
          | ⟨0, _⟩ => exact block_apply x2 64 128 _ (by omega) f g
          | ⟨1, _⟩ => exact block_apply x2 64 192 _ (by omega) f g
          | ⟨2, _⟩ => exact block_apply x2 64 256 _ (by omega) f g
        · funext g; exact block_apply x2 1 512 _ (by omega) 0 g
        · funext g; exact block_apply x2 1 514 _ (by omega) 0 g)
  refine congrArg (h * ·) (congr (congrArg _ ?_) ?_)
  · exact hmid 2 o
  · refine (second_apply sc _ _ _ _ _ _ _ _ _ _ _ ⟨8 * b.val + 7, by omega⟩ (fun k => ⟨8 * b.val + (3 + 2 * k.val), by omega⟩)
      (by show 8 * b.val + (3 + 2 * 0) + 4 = 8 * b.val + 7; omega)
      (by show 8 * b.val + (3 + 2 * 1) + 2 = 8 * b.val + 7; omega)
      (Fin.ext (by show 8 * b.val + (3 + 2 * 2) = 8 * b.val + 7; omega))
      (by show 4 ≤ (8 * b.val + 7) % 8; omega) o).trans ?_
    unfold top
    refine congr (congr (congr (congr (congr (congrArg _ ?_) ?_) ?_) ?_) ?_) rfl
    · funext k f; exact congrArg (_ + ·) (hmid k f)
    · funext f g; exact block_apply x2 64 64 _ (by omega) f g
    · funext k f g
      match k with
      | ⟨0, _⟩ => exact block_apply x2 64 320 _ (by omega) f g
      | ⟨1, _⟩ => exact block_apply x2 64 384 _ (by omega) f g
      | ⟨2, _⟩ => exact block_apply x2 64 448 _ (by omega) f g
    · funext g; exact block_apply x2 1 513 _ (by omega) 0 g
    · funext g; exact block_apply x2 1 515 _ (by omega) 0 g

end Cert.KernelIdeal.Layer
-- ==== Proof.KernelPack.lean ====
/-
  What the host code packs for the kernel: the rows of the packed array, read at an index.
-/
module

public import proofs.«01_k».proof.Proof.KernelFrame
public import Idealize.ShloMosaic.Lib.Pointwise
public import Idealize.ShloMosaic.Lib.KernelVsHost

@[expose] public section

set_option maxRecDepth 16384

noncomputable section

namespace Cert.KernelIdeal.Pack

open Cert.KernelIdeal Cert.KernelIdeal.Gen Cert.KernelIdeal.Body
open Idealize.ShloMosaic Idealize.ShloMosaic.TcCoe Idealize.ShloMosaic.Tactic
open Idealize.SL.Sem
open scoped BigOperators

/-- The words of the last factor: the word of one half in row `b` at column `8 b + 7`, the zero word elsewhere. -/
theorem lit0_eq : ∀ i : Fin 512, lit0 i = if i.val % 64 = 8 * (i.val / 64) + 7 then 0x3F000000#32 else 0x00000000#32 := by
  decide +kernel

/-- The last factor, as the host code holds it. -/
def sel : Vec Ideal S8x64 .f32 := fun i => FloatOps.ofBits (F := Ideal) .f32 (lit0 (S8x64.rowMajor i))

/-- The pack of the weights: the rows of the two first matrices, of the six matrices of the taps, of the four biases, four
    rows of zeros, and the eight rows of the last factor. -/
def pack (w0 w1 : Vec Ideal S64x64 .f32) (cw0 cw1 : Vec Ideal S64x64x1x3 .f32) (b0 b1 cb0 cb1 : Vec Ideal S64 .f32) (sel : Vec Ideal S8x64 .f32) : Vec Ideal S528x64 .f32 :=
  concatenate S528x64 0
    [⟨S64x64, w0⟩, ⟨S64x64, w1⟩,
     ⟨S192x64, shapeCast S192x64 (transpose S3x64x64 [2, 1, 0] (shapeCast S64x64x3 cw0 shapeCasts_S64x64x1x3_S64x64x3) transposes_S64x64x3_S3x64x64_2_1_0) shapeCasts_S3x64x64_S192x64⟩,
     ⟨S192x64, shapeCast S192x64 (transpose S3x64x64 [2, 1, 0] (shapeCast S64x64x3 cw1 shapeCasts_S64x64x1x3_S64x64x3) transposes_S64x64x3_S3x64x64_2_1_0) shapeCasts_S3x64x64_S192x64⟩,
     ⟨S1x64, shapeCast S1x64 b0 shapeCasts_S64_S1x64⟩, ⟨S1x64, shapeCast S1x64 b1 shapeCasts_S64_S1x64⟩,
     ⟨S1x64, shapeCast S1x64 cb0 shapeCasts_S64_S1x64⟩, ⟨S1x64, shapeCast S1x64 cb1 shapeCasts_S64_S1x64⟩,
     ⟨S4x64, broadcastInDim S4x64 ![] bcast_S_S4x64 (constant (F := Ideal) S_ .f32 0x00000000#32)⟩,
     ⟨S8x64, sel⟩]
    concatenates_S64x64_S64x64_S192x64_S192x64_S1x64_S1x64_S1x64_S1x64_S4x64_S8x64_S528x64_d0

variable (m : (ℓ : Loc nD τ sig) → Buf (Elt Ideal) ℓ)

/-- The array that the kernel's third window reads is the pack of the arguments. -/
theorem V_pack (c : Dev nD) : V m c main_v11 = pack (m (c, main_arg7)) (m (c, main_arg9)) (m (c, main_arg11)) (m (c, main_arg13))
    (m (c, main_arg8)) (m (c, main_arg10)) (m (c, main_arg12)) (m (c, main_arg14)) sel := by
  unfold V
  simp only [hostOps0]
  unfold sel
  generalize (fun i : S8x64.Idx => FloatOps.ofBits (F := Ideal) .f32 (lit0 (S8x64.rowMajor i))) = s
  after_results_simp
  dsimp only [Matrix.cons_val]
  rfl

variable (w0 w1 : Vec Ideal S64x64 .f32) (cw0 cw1 : Vec Ideal S64x64x1x3 .f32) (b0 b1 cb0 cb1 : Vec Ideal S64 .f32) (s : Vec Ideal S8x64 .f32)

/-- The first layer's matrix. -/
theorem first_w (f g : Fin 64) :
    pack w0 w1 cw0 cw1 b0 b1 cb0 cb1 s (ix2 (⟨f.val, by omega⟩ : Fin 528) g) = w0 (ix2 f g) := by
  unfold pack
  pointwise

/-- The second layer's matrix. -/
theorem second_w (f g : Fin 64) :
    pack w0 w1 cw0 cw1 b0 b1 cb0 cb1 s (ix2 (⟨64 + f.val, by omega⟩ : Fin 528) g) = w1 (ix2 f g) := by
  unfold pack
  pointwise

/-- The first layer's taps. -/
theorem first_tap (k : Fin 3) (f g : Fin 64) :
    pack w0 w1 cw0 cw1 b0 b1 cb0 cb1 s (ix2 (⟨128 + 64 * k.val + f.val, by omega⟩ : Fin 528) g) = cw0 (ix4 g f (0 : Fin 1) k) := by
  unfold pack
  pointwise
  rw [dif_neg (by omega), dif_neg (by omega), dif_pos (by omega)]
  exact congrArg₂ (fun (r : Fin 64) (k : Fin 3) => cw0 (ix4 g r (0 : Fin 1) k)) (Fin.ext (by show (128 + 64 * k.val + f.val - 64 - 64) % 64 = f.val; omega))
    (Fin.ext (by show (128 + 64 * k.val + f.val - 64 - 64) / 64 = k.val; omega))

/-- The second layer's taps. -/
theorem second_tap (k : Fin 3) (f g : Fin 64) :
    pack w0 w1 cw0 cw1 b0 b1 cb0 cb1 s (ix2 (⟨320 + 64 * k.val + f.val, by omega⟩ : Fin 528) g) = cw1 (ix4 g f (0 : Fin 1) k) := by
  unfold pack
  pointwise
  rw [dif_neg (by omega), dif_neg (by omega), dif_neg (by omega), dif_pos (by omega)]
  exact congrArg₂ (fun (r : Fin 64) (k : Fin 3) => cw1 (ix4 g r (0 : Fin 1) k)) (Fin.ext (by show (320 + 64 * k.val + f.val - 64 - 64 - 192) % 64 = f.val; omega))
    (Fin.ext (by show (320 + 64 * k.val + f.val - 64 - 64 - 192) / 64 = k.val; omega))

/-- The first product's bias. -/
theorem first_b (g : Fin 64) :
    pack w0 w1 cw0 cw1 b0 b1 cb0 cb1 s (ix2 (⟨512, by omega⟩ : Fin 528) g) = b0 (ix1 g) := by
  unfold pack
  pointwise

/-- The second product's bias. -/
theorem second_b (g : Fin 64) :
    pack w0 w1 cw0 cw1 b0 b1 cb0 cb1 s (ix2 (⟨513, by omega⟩ : Fin 528) g) = b1 (ix1 g) := by
  unfold pack
  pointwise

/-- The first convolution's bias. -/
theorem first_cb (g : Fin 64) :
    pack w0 w1 cw0 cw1 b0 b1 cb0 cb1 s (ix2 (⟨514, by omega⟩ : Fin 528) g) = cb0 (ix1 g) := by
  unfold pack
  pointwise

/-- The second convolution's bias. -/
theorem second_cb (g : Fin 64) :
    pack w0 w1 cw0 cw1 b0 b1 cb0 cb1 s (ix2 (⟨515, by omega⟩ : Fin 528) g) = cb1 (ix1 g) := by
  unfold pack
  pointwise

/-- The last factor. -/
theorem last_factor (k : Fin 8) (g : Fin 64) :
    pack w0 w1 cw0 cw1 b0 b1 cb0 cb1 s (ix2 (⟨520 + k.val, by omega⟩ : Fin 528) g) = s (ix2 k g) := by
  unfold pack
  pointwise
  rw [dif_neg (by omega), dif_neg (by omega), dif_neg (by omega), dif_neg (by omega), dif_neg (by omega), dif_neg (by omega), dif_neg (by omega), dif_neg (by omega), dif_neg (by omega)]
  exact congrArg (fun r => s (ix2 r g)) (Fin.ext (by show 520 + k.val - 64 - 64 - 192 - 192 - 1 - 1 - 1 - 1 - 4 = k.val; omega))

/-- The last factor at an index: one half at column `8 b + 7` of row `b`, zero elsewhere. -/
theorem sel_apply (b : Fin 8) (g : Fin 64) :
    sel (ix2 b g) = if g.val = 8 * b.val + 7 then Ideal.ofBits .f32 0x3F000000#32 else 0 := by
  have e : (S8x64.rowMajor (ix2 b g)).val = 64 * b.val + g.val := by
    show b.val * (64 * 1) + (g.val * 1 + 0) = 64 * b.val + g.val
    omega
  refine (congrArg (Ideal.ofBits .f32) (lit0_eq _)).trans ?_
  by_cases h : g.val = 8 * b.val + 7
  · rw [if_pos h, if_pos (by rw [e]; omega)]
  · rw [if_neg h, if_neg (by rw [e]; omega)]
    simp [Ideal.ofBits, Ideal.ieee]

end Cert.KernelIdeal.Pack
-- ==== Proof.KernelMeans.lean ====
/-
  The scratch of means after both grid points, and the kernel's result in the arguments: each row of the scratch is the mean
  over the nodes of one group's and one time step's rows of the first argument.
-/
module

public import proofs.«01_k».proof.Proof.KernelLayer
public import proofs.«01_k».proof.Proof.KernelPack

@[expose] public section

set_option maxRecDepth 16384

noncomputable section

namespace Cert.KernelIdeal.Means

open Cert.Gcn (folded)
open Cert.KernelIdeal Cert.KernelIdeal.Gen Cert.KernelIdeal.Body Cert.KernelIdeal.Layer
open Idealize.ShloMosaic Idealize.ShloMosaic.TcCoe Idealize.ShloMosaic.Tactic
open Idealize.SL.Sem
open scoped BigOperators

/-- A point's 32 rows: the means over the nodes, the first four time steps from one block and the last four from the other. -/
theorem rows_apply (u v : Vec Ideal S4x4x64x128 .f32) (b : Fin 4) (t : Fin 8) (f : Fin 64) :
    k0_pay1 (F := Ideal) u v (ix2 (⟨8 * b.val + t.val, by omega⟩ : Fin 32) f)
      = if h : t.val < 4 then Ideal.div (∑ n : Fin 128, u (ix4 b (⟨t.val, h⟩ : Fin 4) f n)) (Ideal.ofBits .f32 0x43000000#32)
        else Ideal.div (∑ n : Fin 128, v (ix4 b (⟨t.val - 4, by omega⟩ : Fin 4) f n)) (Ideal.ofBits .f32 0x43000000#32) := by
  unfold_payloads
  pointwise

variable (m : (ℓ : Loc nD τ sig) → Buf (Elt Ideal) ℓ)

/-- The first argument, as the array it is. -/
abbrev X (c : Dev nD) : Vec Ideal S8x12x64x128 .f32 := m (c, main_arg0)

/-- The first window's block at a point: four groups, the time steps 4 to 7. -/
theorem block0_apply (c : Dev nD) (t : Fin cfg0.N) (ht : t.val < 2) (b s : Fin 4) (f : Fin 64) (n : Fin 128) :
    (iblk m c 0 t : Vec Ideal S4x4x64x128 .f32) (ix4 b s f n)
      = X m c (ix4 (⟨4 * t.val + b.val, by omega⟩ : Fin 8) (⟨4 + s.val, by omega⟩ : Fin 12) f n) := by
  have hi : win0_0.index t 0 = t.val ∧ win0_0.index t 1 = 1 ∧ win0_0.index t 2 = 0 ∧ win0_0.index t 3 = 0 := by
    rcases fin_N0 t with rfl | rfl <;> decide
  unfold iblk
  rw [View.read_apply]
  show V m c main_arg0 _ = m (c, main_arg0) _
  rw [V_main_arg0 m c]
  refine congrArg (m (c, main_arg0)) (funext fun a => ?_)
  apply Fin.ext
  match a with
  | ⟨0, _⟩ => show win0_0.index t 0 * 4 + 1 * b.val = 4 * t.val + b.val; rw [hi.1]; omega
  | ⟨1, _⟩ => show win0_0.index t 1 * 4 + 1 * s.val = 4 + s.val; rw [hi.2.1]; omega
  | ⟨2, _⟩ => show win0_0.index t 2 * 64 + 1 * f.val = f.val; rw [hi.2.2.1]; omega
  | ⟨3, _⟩ => show win0_0.index t 3 * 128 + 1 * n.val = n.val; rw [hi.2.2.2]; omega

/-- The second window's block at a point: four groups, the time steps 8 to 11. -/
theorem block1_apply (c : Dev nD) (t : Fin cfg0.N) (ht : t.val < 2) (b s : Fin 4) (f : Fin 64) (n : Fin 128) :
    (iblk m c 1 t : Vec Ideal S4x4x64x128 .f32) (ix4 b s f n)
      = X m c (ix4 (⟨4 * t.val + b.val, by omega⟩ : Fin 8) (⟨8 + s.val, by omega⟩ : Fin 12) f n) := by
  have hi : win0_1.index t 0 = t.val ∧ win0_1.index t 1 = 2 ∧ win0_1.index t 2 = 0 ∧ win0_1.index t 3 = 0 := by
    rcases fin_N0 t with rfl | rfl <;> decide
  unfold iblk
  rw [View.read_apply]
  show V m c main_arg0 _ = m (c, main_arg0) _
  rw [V_main_arg0 m c]
  refine congrArg (m (c, main_arg0)) (funext fun a => ?_)
  apply Fin.ext
  match a with
  | ⟨0, _⟩ => show win0_1.index t 0 * 4 + 1 * b.val = 4 * t.val + b.val; rw [hi.1]; omega
  | ⟨1, _⟩ => show win0_1.index t 1 * 4 + 1 * s.val = 8 + s.val; rw [hi.2.1]; omega
  | ⟨2, _⟩ => show win0_1.index t 2 * 64 + 1 * f.val = f.val; rw [hi.2.2.1]; omega
  | ⟨3, _⟩ => show win0_1.index t 3 * 128 + 1 * n.val = n.val; rw [hi.2.2.2]; omega

/-- The third window's block is the whole pack. -/
theorem block2_eq (c : Dev nD) (t : Fin cfg0.N) :
    (iblk m c 2 t : Vec Ideal S528x64 .f32) = V m c main_v11 := by
  have hi : win0_2.index t 0 = 0 ∧ win0_2.index t 1 = 0 := by
    rcases fin_N0 t with rfl | rfl <;> decide
  funext j
  unfold iblk
  rw [View.read_apply]
  show V m c main_v11 _ = V m c main_v11 _
  congr 1
  funext a
  apply Fin.ext
  match a with
  | ⟨0, _⟩ => show win0_2.index t 0 * 528 + 1 * (j 0).val = (j 0).val; rw [hi.1]; omega
  | ⟨1, _⟩ => show win0_2.index t 1 * 64 + 1 * (j 1).val = (j 1).val; rw [hi.2]; omega

/-- A point's row of means is the mean over the nodes of the first argument's rows. -/
theorem rows_eq (c : Dev nD) (t : Fin cfg0.N) (ht : t.val < 2) (b : Fin 4) (s : Fin 8) (f : Fin 64) :
    rows m c t (ix2 (⟨8 * b.val + s.val, by omega⟩ : Fin 32) f)
      = Ideal.div (∑ n : Fin 128, X m c (ix4 (⟨4 * t.val + b.val, by omega⟩ : Fin 8) (⟨4 + s.val, by omega⟩ : Fin 12) f n))
          (Ideal.ofBits .f32 0x43000000#32) := by
  unfold rows
  refine (rows_apply _ _ b s f).trans ?_
  by_cases h : s.val < 4
  · rw [dif_pos h]
    refine congrArg (fun x => Ideal.div x _) (Finset.sum_congr rfl fun n _ => ?_)
    exact block0_apply m c t ht b ⟨s.val, h⟩ f n
  · rw [dif_neg h]
    refine congrArg (fun x => Ideal.div x _) (Finset.sum_congr rfl fun n _ => ?_)
    refine (block1_apply m c t ht b ⟨s.val - 4, by omega⟩ f n).trans ?_
    exact congrArg (fun r : Fin 12 => X m c (ix4 _ r f n)) (Fin.ext (by show 8 + (s.val - 4) = 4 + s.val; omega))

/-- The scratch after both points, at the row of group `b` and time step `4 + s`. -/
theorem means_apply (c : Dev nD) (d : Vec Ideal S64x64 .f32) (b s : Fin 8) (f : Fin 64) :
    means m c d (ix2 (⟨8 * b.val + s.val, by omega⟩ : Fin 64) f)
      = Ideal.div (∑ n : Fin 128, X m c (ix4 b (⟨4 + s.val, by omega⟩ : Fin 12) f n)) (Ideal.ofBits .f32 0x43000000#32) := by
  have c0 : (grid0.coords p0 0).val = 0 := coord_eq p0
  have c1 : (grid0.coords p1 0).val = 1 := coord_eq p1
  have hr : ∀ (t : Fin cfg0.N) (ht : t.val < 2) (b' : Fin 4) (r : Fin 32), 4 * t.val + b'.val = b.val → r.val = 8 * b'.val + s.val →
      rows m c t (ix2 r f)
        = Ideal.div (∑ n : Fin 128, X m c (ix4 b (⟨4 + s.val, by omega⟩ : Fin 12) f n)) (Ideal.ofBits .f32 0x43000000#32) := by
    intro t ht b' r hb hr
    obtain ⟨r, hr'⟩ := r
    obtain ⟨b, hb'⟩ := b
    dsimp only at hb hr
    subst hb hr
    exact rows_eq m c t ht b' s f
  unfold means
  by_cases h : b.val < 4
  · have h1 : ¬(32 * (grid0.coords p1 0).val ≤ 8 * b.val + s.val ∧ 8 * b.val + s.val < 32 * (grid0.coords p1 0).val + 32) := by
      rw [c1]; omega
    have h0 : 32 * (grid0.coords p0 0).val ≤ 8 * b.val + s.val ∧ 8 * b.val + s.val < 32 * (grid0.coords p0 0).val + 32 := by
      rw [c0]; omega
    refine (dif_neg h1).trans ((dif_pos h0).trans ?_)
    exact hr p0 (by decide) ⟨b.val, h⟩ _ (by show 4 * 0 + b.val = b.val; omega)
      (by show 8 * b.val + s.val - 32 * (grid0.coords p0 0).val = 8 * b.val + s.val; rw [c0]; omega)
  · have h1 : 32 * (grid0.coords p1 0).val ≤ 8 * b.val + s.val ∧ 8 * b.val + s.val < 32 * (grid0.coords p1 0).val + 32 := by
      rw [c1]; omega
    refine (dif_pos h1).trans ?_
    exact hr p1 (by decide) ⟨b.val - 4, by omega⟩ _ (by show 4 * 1 + (b.val - 4) = b.val; omega)
      (by show 8 * b.val + s.val - 32 * (grid0.coords p1 0).val = 8 * (b.val - 4) + s.val; rw [c1]; omega)

/-- The mean over the nodes of group `b`'s rows at time step `4 + s`, at column `f`. -/
def mu (c : Dev nD) (b s : Fin 8) (f : Fin 64) : EReal :=
  Ideal.div (∑ n : Fin 128, X m c (ix4 b (⟨4 + s.val, by omega⟩ : Fin 12) f n)) (Ideal.ofBits .f32 0x43000000#32)

/-- The first layer on the means, at time steps 7, 9 and 11. -/
def first (c : Dev nD) (b : Fin 8) (k : Fin 3) (o : Fin 64) : EReal :=
  folded (fun k' f => mu m c b ⟨1 + 2 * k.val + k'.val, by omega⟩ f)
    (fun f g => (m (c, main_arg7) : Vec Ideal S64x64 .f32) (ix2 f g))
    (fun k g o => (m (c, main_arg11) : Vec Ideal S64x64x1x3 .f32) (ix4 o g (0 : Fin 1) k))
    (fun g => (m (c, main_arg8) : Vec Ideal S64 .f32) (ix1 g)) (fun g => (m (c, main_arg12) : Vec Ideal S64 .f32) (ix1 g)) o

/-- The second layer at time step 11, on the means plus the first layer. -/
def second (c : Dev nD) (b : Fin 8) (o : Fin 64) : EReal :=
  folded (fun k f => mu m c b ⟨3 + 2 * k.val, by omega⟩ f + first m c b k f)
    (fun f g => (m (c, main_arg9) : Vec Ideal S64x64 .f32) (ix2 f g))
    (fun k g o => (m (c, main_arg13) : Vec Ideal S64x64x1x3 .f32) (ix4 o g (0 : Fin 1) k))
    (fun g => (m (c, main_arg10) : Vec Ideal S64 .f32) (ix1 g)) (fun g => (m (c, main_arg14) : Vec Ideal S64 .f32) (ix1 g)) o

/-- What the kernel leaves in its result: at every node half the sum of the two layers at the last time step. -/
theorem final_apply (c : Dev nD) (b : Fin 8) (n : Fin 128) (o : Fin 64) :
    (final m c : Vec Ideal S8x128x64 .f32) (ix3 b n o)
      = Ideal.ofBits .f32 0x3F000000#32 * (first m c b 2 o + second m c b o) := by
  unfold final
  rw [block2_eq m c p1, Pack.V_pack m c]
  refine (out_apply _ _ b n o (Ideal.ofBits .f32 0x3F000000#32) fun k => ?_).trans ?_
  · exact (Pack.last_factor _ _ _ _ _ _ _ _ _ b k).trans (Pack.sel_apply b k)
  have hm : ∀ k o, mid (means m c zed) (Pack.pack (m (c, main_arg7)) (m (c, main_arg9)) (m (c, main_arg11)) (m (c, main_arg13))
      (m (c, main_arg8)) (m (c, main_arg10)) (m (c, main_arg12)) (m (c, main_arg14)) Pack.sel) b k o = first m c b k o := by
    intro k o
    unfold mid first
    refine congr (congr (congr (congr (congr (congrArg folded ?_) ?_) ?_) ?_) ?_) rfl
    · funext k' f; exact means_apply m c zed b ⟨1 + 2 * k.val + k'.val, by omega⟩ f
    · funext f g; exact Pack.first_w _ _ _ _ _ _ _ _ _ f g
    · funext k f g; exact Pack.first_tap _ _ _ _ _ _ _ _ _ k f g
    · funext g; exact Pack.first_b _ _ _ _ _ _ _ _ _ g
    · funext g; exact Pack.first_cb _ _ _ _ _ _ _ _ _ g
  refine congrArg (_ * ·) (congr (congrArg _ (hm 2 o)) ?_)
  unfold top second
  refine congr (congr (congr (congr (congr (congrArg folded ?_) ?_) ?_) ?_) ?_) rfl
  · funext k f; exact congr (congrArg _ (means_apply m c zed b ⟨3 + 2 * k.val, by omega⟩ f)) (hm k f)
  · funext f g; exact Pack.second_w _ _ _ _ _ _ _ _ _ f g
  · funext k f g; exact Pack.second_tap _ _ _ _ _ _ _ _ _ k f g
  · funext g; exact Pack.second_b _ _ _ _ _ _ _ _ _ g
  · funext g; exact Pack.second_cb _ _ _ _ _ _ _ _ _ g

end Cert.KernelIdeal.Means
-- ==== Proof.RefEdges.lean ====
/-
  The reference's complete graphs: the edges' end points as words, the rows the source words take, and the sum the target
  words scatter: at node `n` of graph `r` the sum over the 128 nodes of graph `r`.
-/
module

public import proofs.«01_k».proof.Proof.Gen.ReferenceIdeal.Read
public import Idealize.ShloMosaic.Lib.Routing.Ops
public import Idealize.ShloMosaic.Lib.Routing.OpsPair
public import Idealize.ShloMosaic.Lib.ReduceAll

@[expose] public section

set_option maxRecDepth 16384

noncomputable section

namespace Cert.ReferenceIdeal.Edges

open Cert.ReferenceIdeal Cert.ReferenceIdeal.Gen Cert.ReferenceIdeal.Read
open Idealize.ShloMosaic
open Idealize.ShloMosaic.TcCoe
open Idealize.ShloMosaic.ValueIdx (ix1 ix2 ix3 ix4 ix5 eq_ix2 eq_ix1 idxEquiv2)
open scoped BigOperators

variable {F : FTy → Type} [FloatOps F]

/-- A small number's word, read signed, is the number. -/
theorem word_toInt (k : Nat) (h : k < 2 ^ 31) : (BitVec.ofNat 32 k).toInt = (k : ℤ) := by
  rw [BitVec.toInt_eq_toNat_of_lt (by rw [BitVec.toNat_ofNat]; omega), BitVec.toNat_ofNat, Nat.mod_eq_of_lt (by omega)]

/-- Edge `e` of all graphs leaves node `e / 128 % 128` of graph `e / 16384`. -/
theorem source_word (e : Fin 1572864) :
    val_main_v39 (F := F) (ix1 e) = BitVec.ofNat 32 (e.val / 16384 * 128 + e.val % 16384 / 128) := by
  have he := e.isLt
  rw [val_main_v39_apply, val_main_v38_apply, val_main_v36_apply, val_main_v35_apply, val_main_v26_apply, val_main_v25_apply,
    val_main_v24_apply, val_main_v37_apply, val_main_v34_apply, val_main_v33_apply, val_main_v31_apply, val_main_v32_apply,
    val_main_c_apply]
  show BitVec.ofNat 32 (e.val % 16384 / 128) + BitVec.ofNat 32 (e.val / 16384) * 128#32 = _
  apply BitVec.eq_of_toNat_eq
  simp only [BitVec.toNat_add, BitVec.toNat_mul, BitVec.toNat_ofNat]
  omega

/-- Edge `e` of all graphs enters node `e % 128` of graph `e / 16384`. -/
theorem target_word (e : Fin 1572864) :
    val_main_v44 (F := F) (ix1 e) = BitVec.ofNat 32 (e.val / 16384 * 128 + e.val % 128) := by
  have he := e.isLt
  rw [val_main_v44_apply, val_main_v43_apply, val_main_v41_apply, val_main_v40_apply, val_main_v30_apply, val_main_v29_apply,
    val_main_v28_apply, val_main_v27_apply, val_main_v42_apply, val_main_v34_apply, val_main_v33_apply, val_main_v31_apply,
    val_main_v32_apply, val_main_c_apply]
  show BitVec.ofNat 32 (0 * 128 + e.val % 16384 % 128) + BitVec.ofNat 32 (e.val / 16384) * 128#32 = _
  apply BitVec.eq_of_toNat_eq
  simp only [BitVec.toNat_add, BitVec.toNat_mul, BitVec.toNat_ofNat]
  omega

/-- The wrapped source words are the source words: none is negative. -/
theorem start_word (e : Fin 1572864) (k : Fin 1) :
    val_main_call1_v5 (F := F) (ix2 e k) = BitVec.ofNat 32 (e.val / 16384 * 128 + e.val % 16384 / 128) := by
  have he := e.isLt
  rw [val_main_call1_v5_apply, val_main_call1_v4_apply]
  have h1 : idx_main_call1_v5 (ix2 e k) = ix1 e := by
    funext a; match a with | ⟨0, _⟩ => rfl
  rw [h1, val_main_call1_v1_apply, source_word, val_main_call1_v0_apply, val_main_call1_c_apply]
  exact Routing.wrap_of_lt _ _ (by rw [BitVec.toNat_ofNat]; omega)

/-- Every source word is a row of the table, so the fill of the rows outside it is never taken. -/
theorem inside_one (j : S1572864.Idx) : val_main_call1_v12 (F := F) j = 1#1 := by
  unfold val_main_call1_v12
  refine Host.reduce_andi_one _ _ _ _ _ rfl fun i => ?_
  obtain ⟨e, k, rfl⟩ : ∃ (e : Fin 1572864) (k : Fin 1), i = ix2 e k := ⟨i 0, i 1, eq_ix2 i⟩
  have hi := e.isLt
  rw [val_main_call1_v11_apply, val_main_call1_v7_apply, val_main_call1_v10_apply, start_word, val_main_call1_v6_apply,
    val_main_call1_c_2_apply, val_main_call1_v9_apply, val_main_call1_v8_apply, val_main_call1_c_1_apply]
  generalize hk : e.val / 16384 * 128 + e.val % 16384 / 128 = k
  have hlt : k < 12288 := by omega
  have hw := word_toInt k (by omega)
  have e1 : IntOp.cmpi .sge (BitVec.ofNat 32 k) 0#32 = 1#1 := by
    show BitVec.ofBool ((0#32).sle (BitVec.ofNat 32 k)) = _
    rw [BitVec.sle_eq_decide, hw]
    rw [decide_eq_true (by show (0 : ℤ) ≤ k; omega)]
    rfl
  have e2 : IntOp.cmpi .sle (BitVec.ofNat 32 k) 12287#32 = 1#1 := by
    show BitVec.ofBool ((BitVec.ofNat 32 k).sle 12287#32) = _
    rw [BitVec.sle_eq_decide, hw]
    rw [decide_eq_true (by show (k : ℤ) ≤ 12287; omega)]
    rfl
  rw [e1, e2]; rfl

/-- Where update row `e` of a scatter of rows lands: at the row its word names, column by column. -/
theorem lands (idx : IVec S1572864x1 32) (e : Fin 1572864) (g : Fin 64) (r : Fin 12288) (c : Fin 64) :
    scatter_S12288x64_S1572864x1_S1572864x64_1_0_0_1.resultIdx? (ix2 e g) idx = some (ix2 r c)
      ↔ (idx (ix2 e (0 : Fin 1))).toInt = r.val ∧ g = c := by
  rw [Routing.resultIdx?_ix2]
  have h0 : scatter_S12288x64_S1572864x1_S1572864x64_1_0_0_1.start (ix2 e g) idx 0 = (idx (ix2 e (0 : Fin 1))).toInt := by
    unfold ScatterDims.start
    rw [dif_pos (show (0 : Fin 2) ∈ scatter_S12288x64_S1572864x1_S1572864x64_1_0_0_1.scatterDimsToOperandDims from List.mem_singleton.2 rfl)]
    refine congrArg (fun i => (idx i).toInt) (funext fun b => Fin.ext ?_)
    match b with
    | ⟨0, _⟩ => rfl
    | ⟨1, _⟩ => rfl
  have h1 : scatter_S12288x64_S1572864x1_S1572864x64_1_0_0_1.start (ix2 e g) idx 1 = 0 := by
    unfold ScatterDims.start
    exact dif_neg (by decide)
  have w0 : scatter_S12288x64_S1572864x1_S1572864x64_1_0_0_1.window (ix2 e g) 0 = 0 := by
    unfold ScatterDims.window
    exact dif_neg (by decide)
  have w1 : scatter_S12288x64_S1572864x1_S1572864x64_1_0_0_1.window (ix2 e g) 1 = g.val := by
    unfold ScatterDims.window
    rw [dif_pos (by decide)]
    rfl
  rw [h0, h1, w0, w1, Fin.ext_iff]
  omega

/-- Rows scattered by the target words: at node `n` of graph `r` the initial value plus the sum of the updates of the 128
    edges that enter it. -/
theorem scattered_apply (x0 : FVec Ideal S12288x64 .f32) (idx : IVec S1572864x1 32) (upd : FVec Ideal S1572864x64 .f32)
    (hidx : ∀ e : Fin 1572864, idx (ix2 e (0 : Fin 1)) = BitVec.ofNat 32 (e.val / 16384 * 128 + e.val % 128))
    (r : Fin 96) (n : Fin 128) (c : Fin 64) :
    Host.scatterAdd (F := Ideal) scatter_S12288x64_S1572864x1_S1572864x64_1_0_0_1 x0 idx upd
        (ix2 (⟨r.val * 128 + n.val, by omega⟩ : Fin 12288) c)
      = x0 (ix2 (⟨r.val * 128 + n.val, by omega⟩ : Fin 12288) c)
        + ∑ a : Fin 128, upd (ix2 (⟨r.val * 16384 + a.val * 128 + n.val, by omega⟩ : Fin 1572864) c) := by
  show _ + ∑ j ∈ Finset.univ.filter _, upd j = _
  refine congrArg (_ + ·) (Eq.symm ?_)
  refine Finset.sum_bij (fun a _ => ix2 (⟨r.val * 16384 + a.val * 128 + n.val, by omega⟩ : Fin 1572864) c) ?_ ?_ ?_ ?_
  · intro a _
    rw [Finset.mem_filter]
    refine ⟨Finset.mem_univ _, (lands idx _ _ _ _).2 ⟨?_, rfl⟩⟩
    have ha : (r.val * 16384 + a.val * 128 + n.val) / 16384 * 128 + (r.val * 16384 + a.val * 128 + n.val) % 128
        = r.val * 128 + n.val := by omega
    rw [hidx]
    show (BitVec.ofNat 32 ((r.val * 16384 + a.val * 128 + n.val) / 16384 * 128 + (r.val * 16384 + a.val * 128 + n.val) % 128)).toInt
      = ((r.val * 128 + n.val : ℕ) : ℤ)
    rw [ha, word_toInt _ (by omega)]
  · intro a _ a' _ h
    have h0 : r.val * 16384 + a.val * 128 + n.val = r.val * 16384 + a'.val * 128 + n.val := congrArg (fun j => (j 0).val) h
    exact Fin.ext (by omega)
  · intro j hj
    obtain ⟨e, g, rfl⟩ : ∃ (e : Fin 1572864) (g : Fin 64), j = ix2 e g := ⟨j 0, j 1, eq_ix2 j⟩
    have he := e.isLt
    rw [Finset.mem_filter, lands, hidx, word_toInt _ (by omega)] at hj
    obtain ⟨_, h1, h2⟩ := hj
    have h1' : e.val / 16384 * 128 + e.val % 128 = r.val * 128 + n.val := by exact_mod_cast h1
    refine ⟨⟨e.val % 16384 / 128, by omega⟩, Finset.mem_univ _, ?_⟩
    rw [h2]
    refine congrArg (fun x => ix2 x c) (Fin.ext ?_)
    show r.val * 16384 + e.val % 16384 / 128 * 128 + n.val = e.val
    omega
  · intro a _
    rfl

/-- One graph layer before its bias: the rows of a table taken along the edges, each times the edges' weight, and summed
    where the edges enter. -/
def spread (T : FVec F S12288x64 .f32) : FVec F S12288x64 .f32 :=
  Host.scatterAdd scatter_S12288x64_S1572864x1_S1572864x64_1_0_0_1 (val_main_v48 (F := F)) (val_main_v49 (F := F))
    (mulf (select (val_main_call1_v14 (F := F))
      (Host.gather gather_S12288x64_S1572864x1_S1572864x64_1_0_n_n_0_1_164 T (val_main_call1_v5 (F := F))) (val_main_call1_v15 (F := F)))
      (val_main_v46 (F := F)))

/-- The first layer's sums are the spread of its table. -/
theorem first_spread (x0 x7) : val_main_v50 (F := F) x0 x7 = spread (val_main_v23 (F := F) x0 x7) := rfl

/-- The second layer's sums are the spread of its table. -/
theorem second_spread (x0 x7 x8 x9 x11 x12) :
    val_main_v110 (F := F) x0 x7 x8 x9 x11 x12 = spread (val_main_v83 (F := F) x0 x7 x8 x9 x11 x12) := rfl

/-- A spread table at node `n` of graph `r`: the sum over the graph's nodes of their rows times the edges' weight; it is the
    same at every node of the graph. -/
theorem spread_apply (T : FVec Ideal S12288x64 .f32) (r : Fin 96) (n : Fin 128) (c : Fin 64) :
    spread (F := Ideal) T (ix2 (⟨r.val * 128 + n.val, by omega⟩ : Fin 12288) c)
      = ∑ a : Fin 128, T (ix2 (⟨r.val * 128 + a.val, by omega⟩ : Fin 12288) c) * Ideal.ofBits .f32 0x3C000000#32 := by
  unfold spread
  rw [scattered_apply _ _ _ (fun e => by rw [val_main_v49_apply]; exact target_word e)]
  have hz : val_main_v48 (F := Ideal) (ix2 (⟨r.val * 128 + n.val, by omega⟩ : Fin 12288) c) = 0 := by
    rw [val_main_v48_apply, val_main_cst_3_apply]
    show Ideal.ofBits .f32 0x00000000#32 = 0
    simp [Ideal.ofBits, Ideal.ieee]
  rw [hz, zero_add]
  refine Finset.sum_congr rfl fun a _ => ?_
  have hg := Routing.gather_row gather_S12288x64_S1572864x1_S1572864x64_1_0_n_n_0_1_164 rfl rfl rfl rfl rfl T
    (val_main_call1_v5 (F := Ideal)) (⟨r.val * 16384 + a.val * 128 + n.val, by omega⟩ : Fin 1572864) c
    (⟨r.val * 128 + a.val, by omega⟩ : Fin 12288) (by
      rw [start_word]
      refine congrArg (BitVec.ofNat 32) ?_
      show (r.val * 16384 + a.val * 128 + n.val) / 16384 * 128 + (r.val * 16384 + a.val * 128 + n.val) % 16384 / 128 = r.val * 128 + a.val
      omega) (by decide)
  show Scalar.select (val_main_call1_v14 (F := Ideal) _) (Host.gather _ _ _ _) _ * val_main_v46 (F := Ideal) _ = _
  rw [hg, val_main_call1_v14_apply, inside_one, val_main_v46_apply, val_main_cst_2_apply]
  rfl

end Cert.ReferenceIdeal.Edges
-- ==== Proof.RefGraph.lean ====
/-
  The reference's graph convolution over all groups and time steps, read at an index: at every node of a graph the sum of the
  images of the graph's 128 rows, each times the edges' weight, plus the bias. Both layers are this function of their input.
-/
module

public import proofs.«01_k».proof.Proof.RefEdges
public import proofs.«01_k».proof.Proof.Gcn

@[expose] public section

set_option maxRecDepth 16384

noncomputable section

namespace Cert.ReferenceIdeal.Graph

open Cert.ReferenceIdeal Cert.ReferenceIdeal.Gen Cert.ReferenceIdeal.Read
open Idealize.ShloMosaic
open Idealize.ShloMosaic.TcCoe
open Idealize.ShloMosaic.ValueIdx (ix1 ix2 ix3 ix4 ix5 eq_ix2 eq_ix1 idxEquiv2)
open scoped BigOperators

/-- The weight of an edge: 1/128. -/
abbrev weight : EReal := Ideal.ofBits .f32 0x3C000000#32

/-- The rows of the graph of group `b` and time step `t`: row `a` holds node `a`'s features. -/
theorem row_apply (y : FVec Ideal S8x12x64x128 .f32) (b : Fin 8) (t : Fin 12) (a : Fin 128) (f : Fin 64) :
    val_main_v22 (F := Ideal) y (ix2 (⟨(b.val * 12 + t.val) * 128 + a.val, by omega⟩ : Fin 12288) f) = y (ix4 b t f a) := by
  rw [val_main_v22_apply, val_main_v21_apply, val_main_v20_apply]
  refine congrArg y (funext fun x => Fin.ext ?_)
  match x with
  | ⟨0, _⟩ =>
    show ((((((b.val * 12 + t.val) * 128 + a.val) * 64 + f.val) / 8192) * 128 + (((b.val * 12 + t.val) * 128 + a.val) * 64 + f.val) / 64 % 128) * 64
      + (((b.val * 12 + t.val) * 128 + a.val) * 64 + f.val) % 64) / 98304 = b.val
    omega
  | ⟨1, _⟩ =>
    show ((((((b.val * 12 + t.val) * 128 + a.val) * 64 + f.val) / 8192) * 128 + (((b.val * 12 + t.val) * 128 + a.val) * 64 + f.val) / 64 % 128) * 64
      + (((b.val * 12 + t.val) * 128 + a.val) * 64 + f.val) % 64) / 8192 % 12 = t.val
    omega
  | ⟨2, _⟩ =>
    show ((((((b.val * 12 + t.val) * 128 + a.val) * 64 + f.val) / 8192) * 128 + (((b.val * 12 + t.val) * 128 + a.val) * 64 + f.val) / 64 % 128) * 64
      + (((b.val * 12 + t.val) * 128 + a.val) * 64 + f.val) % 64) % 64 = f.val
    omega
  | ⟨3, _⟩ =>
    show ((((((b.val * 12 + t.val) * 128 + a.val) * 64 + f.val) / 8192) * 128 + (((b.val * 12 + t.val) * 128 + a.val) * 64 + f.val) / 64 % 128) * 64
      + (((b.val * 12 + t.val) * 128 + a.val) * 64 + f.val) % 64) / 64 % 128 = a.val
    omega

/-- The table of the rows' images under the layer's matrix. -/
theorem image_apply (y : FVec Ideal S8x12x64x128 .f32) (w : FVec Ideal S64x64 .f32) (b : Fin 8) (t : Fin 12) (a : Fin 128) (g : Fin 64) :
    val_main_v23 (F := Ideal) y w (ix2 (⟨(b.val * 12 + t.val) * 128 + a.val, by omega⟩ : Fin 12288) g)
      = ∑ f : Fin 64, y (ix4 b t f a) * w (ix2 f g) := by
  rw [val_main_v23_apply]
  refine Finset.sum_congr rfl fun f _ => congr (congrArg _ ?_) ?_
  · refine Eq.trans (congrArg _ (funext fun x => ?_)) (row_apply y b t a f)
    match x with
    | ⟨0, _⟩ => rfl
    | ⟨1, _⟩ => rfl
  · refine congrArg w (funext fun x => ?_)
    match x with
    | ⟨0, _⟩ => rfl
    | ⟨1, _⟩ => rfl

/-- The graph convolution at an index: the same at every node. -/
theorem graph_apply (y : FVec Ideal S8x12x64x128 .f32) (w : FVec Ideal S64x64 .f32) (bias : FVec Ideal S64 .f32)
    (b : Fin 8) (t : Fin 12) (n : Fin 128) (g : Fin 64) :
    val_main_v55 (F := Ideal) y w bias (ix4 b t n g)
      = Gcn.graph weight (fun f a => y (ix4 b t f a)) (fun f g => w (ix2 f g)) (fun g => bias (ix1 g)) g := by
  rw [val_main_v55_apply, val_main_v54_apply]
  have e : idx_main_v54 (idx_main_v55 (ix4 b t n g)) = ix2 (⟨(b.val * 12 + t.val) * 128 + n.val, by omega⟩ : Fin 12288) g := by
    funext x
    apply Fin.ext
    match x with
    | ⟨0, _⟩ =>
      show ((((((b.val * 12 + t.val) * 128 + n.val) * 64 + g.val) / 8192) * 128 + (((b.val * 12 + t.val) * 128 + n.val) * 64 + g.val) / 64 % 128) * 64
        + (((b.val * 12 + t.val) * 128 + n.val) * 64 + g.val) % 64) / 64 = (b.val * 12 + t.val) * 128 + n.val
      omega
    | ⟨1, _⟩ =>
      show ((((((b.val * 12 + t.val) * 128 + n.val) * 64 + g.val) / 8192) * 128 + (((b.val * 12 + t.val) * 128 + n.val) * 64 + g.val) / 64 % 128) * 64
        + (((b.val * 12 + t.val) * 128 + n.val) * 64 + g.val) % 64) % 64 = g.val
      omega
  rw [e, val_main_v53_apply, Edges.first_spread]
  show _ + _ = _
  refine congr (congrArg _ ?_) ?_
  · refine (Edges.spread_apply _ ⟨b.val * 12 + t.val, by omega⟩ n g).trans (Finset.sum_congr rfl fun a _ => ?_)
    exact congrArg (· * weight) (image_apply y w b t a g)
  · rw [val_main_v52_apply, val_main_v51_apply]
    refine congrArg bias (funext fun x => ?_)
    match x with
    | ⟨0, _⟩ => rfl

variable {F : FTy → Type} [FloatOps F]

/-- The second layer's rows are the same function of its input as the first layer's. -/
theorem second_rows (x0 x7 x8 x11 x12) :
    val_main_v82 (F := F) x0 x7 x8 x11 x12 = val_main_v22 (F := F) (val_main_v79 (F := F) x0 x7 x8 x11 x12) := by
  unfold val_main_v82 val_main_v81 val_main_v80 val_main_v22 val_main_v21 val_main_v20
  rfl

theorem second_image (x0 x7 x8 x9 x11 x12) :
    val_main_v83 (F := F) x0 x7 x8 x9 x11 x12 = val_main_v23 (F := F) (val_main_v79 (F := F) x0 x7 x8 x11 x12) x9 := by
  unfold val_main_v83 val_main_v23
  rw [second_rows]

/-- The second layer's graph convolution is the same function of its input, its matrix and its bias as the first layer's. -/
theorem second_graph (x0 x7 x8 x9 x10 x11 x12) :
    val_main_v115 (F := F) x0 x7 x8 x9 x10 x11 x12 = val_main_v55 (F := F) (val_main_v79 (F := F) x0 x7 x8 x11 x12) x9 x10 := by
  unfold val_main_v115 val_main_v114 val_main_v113 val_main_v55 val_main_v54 val_main_v53
  rw [Edges.second_spread, Edges.first_spread, second_image]
  generalize Edges.spread (F := F) _ = s
  rfl

end Cert.ReferenceIdeal.Graph
-- ==== Proof.RefConv.lean ====
/-
  The reference's causal convolution along time: the graph products padded by zeros in front, three slices of them, each times
  one tap of the convolution's matrix, the bias and the cut at zero. From the time step on where no tap reaches the padding, it
  is one layer of the network on three time steps.
-/
module

public import proofs.«01_k».proof.Proof.RefGraph
public import Idealize.ShloMosaic.Lib.KernelVsHost

@[expose] public section

set_option maxRecDepth 16384

noncomputable section

namespace Cert.ReferenceIdeal.Conv

open Cert.ReferenceIdeal Cert.ReferenceIdeal.Gen Cert.ReferenceIdeal.Read
open Idealize.ShloMosaic
open Idealize.ShloMosaic.TcCoe
open Idealize.ShloMosaic.ValueIdx (ix1 ix2 ix3 ix4 ix5 eq_ix2 eq_ix1 idxEquiv2)
open scoped BigOperators

/-- A slice of an array padded in front along time, read at a time step the padding does not reach, is the array at the time
    step moved by the slice's offset and back by the padding. -/
theorem slice_pad_apply {T p o : Nat} (y : FVec Ideal S8x12x128x64 .f32) (v : FVec Ideal S_ .f32)
    (hp : S8x12x128x64.Pads (![0, p, 0, 0] : Fin 4 → Nat) ![0, 0, 0, 0] ![0, 0, 0, 0] ⟨4, ![8, T, 128, 64]⟩)
    (hs : (⟨4, ![8, T, 128, 64]⟩ : Shape).Slices ![0, o, 0, 0] S8x12x128x64)
    (b : Fin 8) (t s : Fin 12) (n : Fin 128) (g : Fin 64) (h : p + s.val = o + t.val) (hT : o + t.val < T) :
    extractStridedSlice S8x12x128x64 ![0, o, 0, 0]
      (pad ⟨4, ![8, T, 128, 64]⟩ ![0, p, 0, 0] ![0, 0, 0, 0] ![0, 0, 0, 0] y v hp h_S_) hs (ix4 b t n g) = y (ix4 b s n g) := by
  rw [extractStridedSlice_apply ![0, o, 0, 0] _ hs (ix4 b t n g) (ix4 b (⟨o + t.val, hT⟩ : Fin T) n g) (fun a => match a with
    | ⟨0, _⟩ => by show b.val = 0 + b.val; omega
    | ⟨1, _⟩ => rfl
    | ⟨2, _⟩ => by show n.val = 0 + n.val; omega
    | ⟨3, _⟩ => by show g.val = 0 + g.val; omega)]
  exact pad_apply_of_inside _ _ _ y v hp h_S_ _ (ix4 b s n g) (fun a => match a with
    | ⟨0, _⟩ => by show b.val = 0 + b.val * (0 + 1); omega
    | ⟨1, _⟩ => by show o + t.val = p + s.val * (0 + 1); omega
    | ⟨2, _⟩ => by show n.val = 0 + n.val * (0 + 1); omega
    | ⟨3, _⟩ => by show g.val = 0 + g.val * (0 + 1); omega)

/-- One tap of the convolution's matrix as a square matrix. -/
theorem tap_apply {k : Fin 3} (x : FVec Ideal S64x64x1x3 .f32) (hs : S64x64x1x3.Slices ![0, 0, 0, k.val] S64x64x1x1)
    (o g : Fin 64) :
    shapeCast S64x64 (extractStridedSlice S64x64x1x1 ![0, 0, 0, k.val] x hs) shapeCasts_S64x64x1x1_S64x64 (ix2 o g)
      = x (ix4 o g (0 : Fin 1) k) := by
  rw [shapeCast_apply _ shapeCasts_S64x64x1x1_S64x64 (ix2 o g) (ix4 o g (0 : Fin 1) (0 : Fin 1)) (by
    rewrite [Shape.rowMajor_val_four, Shape.rowMajor_val_two]
    show ((o.val * 64 + g.val) * 1 + 0) * 1 + 0 = o.val * 64 + g.val
    omega)]
  exact extractStridedSlice_apply _ x hs _ (ix4 o g (0 : Fin 1) k) (fun a => match a with
    | ⟨0, _⟩ => by show o.val = 0 + o.val; omega
    | ⟨1, _⟩ => by show g.val = 0 + g.val; omega
    | ⟨2, _⟩ => rfl
    | ⟨3, _⟩ => rfl)

/-- The product of one time slice and one tap: a row of the slice against a row of the tap. -/
theorem dot_apply (x : FVec Ideal S8x12x128x64 .f32) (w : FVec Ideal S64x64 .f32) (b : Fin 8) (t : Fin 12) (n : Fin 128)
    (o : Fin 64) :
    Host.dotGeneral (φ₁ := .f32) (φ₂ := .f32) dot_S8x12x128x64_S64x64_S8x12x128x64_3_1_012_0_n_n none x w (ix4 b t n o)
      = ∑ g : Fin 64, x (ix4 b t n g) * w (ix2 o g) := by
  simp only [Host.dotGeneral]
  rw [Ideal.dotGeneral_apply,
    ← Equiv.sum_comp (ValueIdx.contrEquiv1 dot_S8x12x128x64_S64x64_S8x12x128x64_3_1_012_0_n_n 64 rfl rfl).symm]
  refine Finset.sum_congr rfl fun k _ => ?_
  have hk := ValueIdx.contrEquiv1_symm_val dot_S8x12x128x64_S64x64_S8x12x128x64_3_1_012_0_n_n 64 rfl rfl k
  refine congrArg₂ (· * ·) (congrArg x (funext fun a => Fin.ext ?_)) (congrArg w (funext fun a => Fin.ext ?_))
  · match a with
    | ⟨0, _⟩ => exact lhs_main_v61_0 _ _
    | ⟨1, _⟩ => exact lhs_main_v61_1 _ _
    | ⟨2, _⟩ => exact lhs_main_v61_2 _ _
    | ⟨3, _⟩ => exact (lhs_main_v61_3 _ _).trans hk
  · match a with
    | ⟨0, _⟩ => exact rhs_main_v61_0 _ _
    | ⟨1, _⟩ => exact (rhs_main_v61_1 _ _).trans hk

/-- The convolution of three time slices: its bias, the three products, the cut at zero. -/
def conv (s0 s1 s2 : FVec Ideal S8x12x128x64 .f32) (cw : FVec Ideal S64x64x1x3 .f32) (cb : FVec Ideal S64 .f32) :
    FVec Ideal S8x12x128x64 .f32 :=
  maximumf (addf (addf (addf (val_main_v62 (F := Ideal) cb)
    (Host.dotGeneral (φ₁ := .f32) (φ₂ := .f32) dot_S8x12x128x64_S64x64_S8x12x128x64_3_1_012_0_n_n none s0 (val_main_v60 (F := Ideal) cw)))
    (Host.dotGeneral (φ₁ := .f32) (φ₂ := .f32) dot_S8x12x128x64_S64x64_S8x12x128x64_3_1_012_0_n_n none s1 (val_main_v66 (F := Ideal) cw)))
    (Host.dotGeneral (φ₁ := .f32) (φ₂ := .f32) dot_S8x12x128x64_S64x64_S8x12x128x64_3_1_012_0_n_n none s2 (val_main_v71 (F := Ideal) cw)))
    (val_main_call3_v0 (F := Ideal))

/-- The bias of the convolution at an index. -/
theorem bias_apply (cb : FVec Ideal S64 .f32) (b : Fin 8) (t : Fin 12) (n : Fin 128) (o : Fin 64) :
    val_main_v62 (F := Ideal) cb (ix4 b t n o) = cb (ix1 o) := by
  rw [val_main_v62_apply, val_main_v57_apply]
  refine congrArg cb (funext fun x => Fin.ext ?_)
  match x with
  | ⟨0, _⟩ => rfl

/-- The cut's other operand is zero. -/
theorem zero_apply (i : S8x12x128x64.Idx) : val_main_call3_v0 (F := Ideal) i = (0 : EReal) := by
  rw [val_main_call3_v0_apply, val_main_call3_cst_apply]
  show Ideal.ofBits .f32 0#32 = 0
  simp [Ideal.ofBits, Ideal.ieee]

/-- The convolution of three time slices at an index. -/
theorem conv_apply (s0 s1 s2 : FVec Ideal S8x12x128x64 .f32) (cw : FVec Ideal S64x64x1x3 .f32) (cb : FVec Ideal S64 .f32)
    (b : Fin 8) (t : Fin 12) (n : Fin 128) (o : Fin 64) :
    conv s0 s1 s2 cw cb (ix4 b t n o)
      = max (cb (ix1 o) + (∑ g : Fin 64, s0 (ix4 b t n g) * cw (ix4 o g (0 : Fin 1) (0 : Fin 3)))
        + (∑ g : Fin 64, s1 (ix4 b t n g) * cw (ix4 o g (0 : Fin 1) (1 : Fin 3)))
        + (∑ g : Fin 64, s2 (ix4 b t n g) * cw (ix4 o g (0 : Fin 1) (2 : Fin 3)))) 0 := by
  show max (val_main_v62 (F := Ideal) cb (ix4 b t n o)
    + Host.dotGeneral (φ₁ := .f32) (φ₂ := .f32) dot_S8x12x128x64_S64x64_S8x12x128x64_3_1_012_0_n_n none s0 (val_main_v60 (F := Ideal) cw) (ix4 b t n o)
    + Host.dotGeneral (φ₁ := .f32) (φ₂ := .f32) dot_S8x12x128x64_S64x64_S8x12x128x64_3_1_012_0_n_n none s1 (val_main_v66 (F := Ideal) cw) (ix4 b t n o)
    + Host.dotGeneral (φ₁ := .f32) (φ₂ := .f32) dot_S8x12x128x64_S64x64_S8x12x128x64_3_1_012_0_n_n none s2 (val_main_v71 (F := Ideal) cw) (ix4 b t n o))
    (val_main_call3_v0 (F := Ideal) (ix4 b t n o) : EReal) = _
  rw [bias_apply, zero_apply, dot_apply, dot_apply, dot_apply]
  have h0 : ∀ g : Fin 64, val_main_v60 (F := Ideal) cw (ix2 o g) = cw (ix4 o g (0 : Fin 1) (0 : Fin 3)) :=
    fun g => tap_apply (k := 0) cw slices_S64x64x1x3_S64x64x1x1_0_0_0_0 o g
  have h1 : ∀ g : Fin 64, val_main_v66 (F := Ideal) cw (ix2 o g) = cw (ix4 o g (0 : Fin 1) (1 : Fin 3)) :=
    fun g => tap_apply (k := 1) cw slices_S64x64x1x3_S64x64x1x1_0_0_0_1 o g
  have h2 : ∀ g : Fin 64, val_main_v71 (F := Ideal) cw (ix2 o g) = cw (ix4 o g (0 : Fin 1) (2 : Fin 3)) :=
    fun g => tap_apply (k := 2) cw slices_S64x64x1x3_S64x64x1x1_0_0_0_2 o g
  simp only [h0, h1, h2]

/-- The first layer is the convolution of the slices at offsets 0, 1 and 2. -/
theorem first_conv (x0 x7 x8 x11 x12) :
    val_main_v74 (F := Ideal) x0 x7 x8 x11 x12
      = conv (val_main_v58 (F := Ideal) x0 x7 x8) (val_main_v64 (F := Ideal) x0 x7 x8) (val_main_v69 (F := Ideal) x0 x7 x8)
        x11 x12 := rfl

/-- The second layer is the convolution of the slices at offsets 0, 2 and 4. -/
theorem second_conv (x0 x7 x8 x9 x10 x11 x12 x13 x14) :
    val_main_v134 (F := Ideal) x0 x7 x8 x9 x10 x11 x12 x13 x14
      = conv (val_main_v118 (F := Ideal) x0 x7 x8 x9 x10 x11 x12) (val_main_v124 (F := Ideal) x0 x7 x8 x9 x10 x11 x12)
        (val_main_v129 (F := Ideal) x0 x7 x8 x9 x10 x11 x12) x13 x14 := rfl

/-- The first layer at a time step from 2 on: one layer of the network on the three time steps up to it. -/
theorem first_apply (x0 x7 x8 x11 x12) (b : Fin 8) (s : Fin 10) (n : Fin 128) (o : Fin 64) :
    val_main_v74 (F := Ideal) x0 x7 x8 x11 x12 (ix4 b (⟨2 + s.val, by omega⟩ : Fin 12) n o)
      = Gcn.layer Graph.weight (fun k f a => x0 (ix4 b (⟨s.val + k.val, by omega⟩ : Fin 12) f a)) (fun f g => x7 (ix2 f g))
        (fun k g o => x11 (ix4 o g (0 : Fin 1) k)) (fun g => x8 (ix1 g)) (fun g => x12 (ix1 g)) o := by
  rw [first_conv, conv_apply]
  unfold val_main_v58 val_main_v64 val_main_v69 val_main_v56
  simp only [slice_pad_apply (T := 14) (p := 2) (o := 0) (val_main_v55 (F := Ideal) x0 x7 x8) (val_main_call2_v0 (F := Ideal)) pads_S8x12x128x64_S8x14x128x64_000_200_000_000
      slices_S8x14x128x64_S8x12x128x64_0_0_0_0 b (⟨2 + s.val, by omega⟩ : Fin 12) (⟨s.val + 0, by omega⟩ : Fin 12) n _
      (by dsimp only; omega) (by dsimp only; omega),
    slice_pad_apply (T := 14) (p := 2) (o := 1) (val_main_v55 (F := Ideal) x0 x7 x8) (val_main_call2_v0 (F := Ideal)) pads_S8x12x128x64_S8x14x128x64_000_200_000_000
      slices_S8x14x128x64_S8x12x128x64_0_1_0_0 b (⟨2 + s.val, by omega⟩ : Fin 12) (⟨s.val + 1, by omega⟩ : Fin 12) n _
      (by dsimp only; omega) (by dsimp only; omega),
    slice_pad_apply (T := 14) (p := 2) (o := 2) (val_main_v55 (F := Ideal) x0 x7 x8) (val_main_call2_v0 (F := Ideal)) pads_S8x12x128x64_S8x14x128x64_000_200_000_000
      slices_S8x14x128x64_S8x12x128x64_0_2_0_0 b (⟨2 + s.val, by omega⟩ : Fin 12) (⟨s.val + 2, by omega⟩ : Fin 12) n _
      (by dsimp only; omega) (by dsimp only; omega), Graph.graph_apply]
  rfl

/-- The second layer at the last time step: one layer of the network on the first layer's output, every other time step. -/
theorem second_apply (x0 x7 x8 x9 x10 x11 x12 x13 x14) (b : Fin 8) (n : Fin 128) (o : Fin 64) :
    val_main_v134 (F := Ideal) x0 x7 x8 x9 x10 x11 x12 x13 x14 (ix4 b (11 : Fin 12) n o)
      = Gcn.layer Graph.weight
        (fun k f a => val_main_v79 (F := Ideal) x0 x7 x8 x11 x12 (ix4 b (⟨7 + 2 * k.val, by omega⟩ : Fin 12) f a))
        (fun f g => x9 (ix2 f g)) (fun k g o => x13 (ix4 o g (0 : Fin 1) k)) (fun g => x10 (ix1 g)) (fun g => x14 (ix1 g)) o := by
  rw [second_conv, conv_apply]
  unfold val_main_v118 val_main_v124 val_main_v129 val_main_v116
  rw [Graph.second_graph]
  generalize val_main_v79 (F := Ideal) x0 x7 x8 x11 x12 = y
  simp only [slice_pad_apply (T := 16) (p := 4) (o := 0) (val_main_v55 (F := Ideal) y x9 x10) (val_main_call5_v0 (F := Ideal)) pads_S8x12x128x64_S8x16x128x64_000_400_000_000
      slices_S8x16x128x64_S8x12x128x64_0_0_0_0 b (11 : Fin 12) (7 : Fin 12) n _ (by decide) (by decide),
    slice_pad_apply (T := 16) (p := 4) (o := 2) (val_main_v55 (F := Ideal) y x9 x10) (val_main_call5_v0 (F := Ideal)) pads_S8x12x128x64_S8x16x128x64_000_400_000_000
      slices_S8x16x128x64_S8x12x128x64_0_2_0_0 b (11 : Fin 12) (9 : Fin 12) n _ (by decide) (by decide),
    slice_pad_apply (T := 16) (p := 4) (o := 4) (val_main_v55 (F := Ideal) y x9 x10) (val_main_call5_v0 (F := Ideal)) pads_S8x12x128x64_S8x16x128x64_000_400_000_000
      slices_S8x16x128x64_S8x12x128x64_0_4_0_0 b (11 : Fin 12) (11 : Fin 12) n _ (by decide) (by decide), Graph.graph_apply]
  rfl

/-- The second layer's input: the first layer's output plus the network's input. -/
theorem residual_apply (x0 x7 x8 x11 x12) (b : Fin 8) (t : Fin 12) (f : Fin 64) (n : Fin 128) :
    val_main_v79 (F := Ideal) x0 x7 x8 x11 x12 (ix4 b t f n)
      = (val_main_v74 (F := Ideal) x0 x7 x8 x11 x12 (ix4 b t n f) : EReal) + x0 (ix4 b t f n) := by
  rw [val_main_v79_apply, val_main_v78_apply]
  show (val_main_v74 (F := Ideal) x0 x7 x8 x11 x12 _ : EReal) + x0 (ix4 b t f n) = _
  refine congrArg (fun z : EReal => z + x0 (ix4 b t f n)) (congrArg _ (funext fun x => Fin.ext ?_))
  match x with
  | ⟨0, _⟩ => rfl
  | ⟨1, _⟩ => rfl
  | ⟨2, _⟩ => rfl
  | ⟨3, _⟩ => rfl

end Cert.ReferenceIdeal.Conv
-- ==== Proof.RefAttention.lean ====
/-
  The reference's attention over the two layers. Each layer's last time step is the same at every node, so the two scores of a
  node are the same real number, the two weights are 1/2, and the result is half of the one layer plus half of the other.
-/
module

public import proofs.«01_k».proof.Proof.RefConv

@[expose] public section

set_option maxRecDepth 16384

noncomputable section

namespace Cert.ReferenceIdeal.Attention

open Cert.ReferenceIdeal Cert.ReferenceIdeal.Gen Cert.ReferenceIdeal.Read
open Idealize.ShloMosaic
open Idealize.ShloMosaic.TcCoe
open Idealize.ShloMosaic.ValueIdx (ix1 ix2 ix3 ix4 ix5 eq_ix2 eq_ix1 idxEquiv2)
open scoped BigOperators

/-- The first layer's last time step, node by node. -/
theorem last_first (x0 x7 x8 x11 x12) (b : Fin 8) (o : Fin 64) (n : Fin 128) :
    val_main_v77 (F := Ideal) x0 x7 x8 x11 x12 (ix3 b o n) = val_main_v74 (F := Ideal) x0 x7 x8 x11 x12 (ix4 b (11 : Fin 12) n o) := by
  rw [val_main_v77_apply, val_main_v76_apply, val_main_v75_apply]
  refine congrArg _ (funext fun x => Fin.ext ?_)
  match x with
  | ⟨0, _⟩ =>
    show ((b.val * 128 + n.val) * 64 + o.val) / 8192 = b.val
    omega
  | ⟨1, _⟩ => rfl
  | ⟨2, _⟩ =>
    show ((b.val * 128 + n.val) * 64 + o.val) / 64 % 128 = n.val
    omega
  | ⟨3, _⟩ =>
    show ((b.val * 128 + n.val) * 64 + o.val) % 64 = o.val
    omega

/-- The second layer's last time step, node by node. -/
theorem last_second (x0 x7 x8 x9 x10 x11 x12 x13 x14) (b : Fin 8) (o : Fin 64) (n : Fin 128) :
    val_main_v137 (F := Ideal) x0 x7 x8 x9 x10 x11 x12 x13 x14 (ix3 b o n)
      = val_main_v134 (F := Ideal) x0 x7 x8 x9 x10 x11 x12 x13 x14 (ix4 b (11 : Fin 12) n o) := by
  rw [val_main_v137_apply, val_main_v136_apply, val_main_v135_apply]
  refine congrArg _ (funext fun x => Fin.ext ?_)
  match x with
  | ⟨0, _⟩ =>
    show ((b.val * 128 + n.val) * 64 + o.val) / 8192 = b.val
    omega
  | ⟨1, _⟩ => rfl
  | ⟨2, _⟩ =>
    show ((b.val * 128 + n.val) * 64 + o.val) / 64 % 128 = n.val
    omega
  | ⟨3, _⟩ =>
    show ((b.val * 128 + n.val) * 64 + o.val) % 64 = o.val
    omega

/-- The two layers side by side: entry 0 is the first layer. -/
theorem pair_first (x0 x7 x8 x9 x10 x11 x12 x13 x14) (b : Fin 8) (n : Fin 128) (o : Fin 64) :
    val_main_v143 (F := Ideal) x0 x7 x8 x9 x10 x11 x12 x13 x14 (ix4 b n o (0 : Fin 2))
      = val_main_v74 (F := Ideal) x0 x7 x8 x11 x12 (ix4 b (11 : Fin 12) n o) := by
  rw [val_main_v143_apply]
  unfold val_main_v142
  rw [concatenate_pair_apply_left (s₁ := S8x64x128x1) (s₂ := S8x64x128x1) (3 : Fin S8x64x128x2.rank) _ _ _ _ rfl (ix4 b o n (0 : Fin 1) : S8x64x128x1.Idx) (fun a => match a with
    | ⟨0, _⟩ => rfl
    | ⟨1, _⟩ => rfl
    | ⟨2, _⟩ => rfl
    | ⟨3, _⟩ => rfl), val_main_v140_apply, ← last_first]
  refine congrArg _ (funext fun x => Fin.ext ?_)
  match x with
  | ⟨0, _⟩ => rfl
  | ⟨1, _⟩ => rfl
  | ⟨2, _⟩ => rfl

/-- The two layers side by side: entry 1 is the second layer. -/
theorem pair_second (x0 x7 x8 x9 x10 x11 x12 x13 x14) (b : Fin 8) (n : Fin 128) (o : Fin 64) :
    val_main_v143 (F := Ideal) x0 x7 x8 x9 x10 x11 x12 x13 x14 (ix4 b n o (1 : Fin 2))
      = val_main_v134 (F := Ideal) x0 x7 x8 x9 x10 x11 x12 x13 x14 (ix4 b (11 : Fin 12) n o) := by
  rw [val_main_v143_apply]
  unfold val_main_v142
  rw [concatenate_pair_apply_right (s₁ := S8x64x128x1) (s₂ := S8x64x128x1) (3 : Fin S8x64x128x2.rank) _ _ _ _ rfl rfl (ix4 b o n (0 : Fin 1) : S8x64x128x1.Idx) (fun a => match a with
    | ⟨0, _⟩ => fun _ => rfl
    | ⟨1, _⟩ => fun _ => rfl
    | ⟨2, _⟩ => fun _ => rfl
    | ⟨3, _⟩ => fun h => absurd rfl h) rfl, val_main_v141_apply, ← last_second]
  refine congrArg _ (funext fun x => Fin.ext ?_)
  match x with
  | ⟨0, _⟩ => rfl
  | ⟨1, _⟩ => rfl
  | ⟨2, _⟩ => rfl

/-- Row `r` of the attention's operand: group `r / 256`, layer `r / 128 % 2`, node `r % 128`. -/
theorem operand_apply (x0 x7 x8 x9 x10 x11 x12 x13 x14) (r : Fin 2048) (f : Fin 64) :
    val_main_v145 (F := Ideal) x0 x7 x8 x9 x10 x11 x12 x13 x14 (ix2 r f)
      = val_main_v143 (F := Ideal) x0 x7 x8 x9 x10 x11 x12 x13 x14
        (ix4 (⟨r.val / 256, by omega⟩ : Fin 8) (⟨r.val % 128, by omega⟩ : Fin 128) f (⟨r.val / 128 % 2, by omega⟩ : Fin 2)) := by
  rw [val_main_v145_apply, val_main_v144_apply]
  refine congrArg _ (funext fun x => Fin.ext ?_)
  match x with
  | ⟨0, _⟩ =>
    show (r.val * 64 + f.val) / 16384 = r.val / 256
    omega
  | ⟨1, _⟩ =>
    show (r.val * 64 + f.val) / 64 % 128 = r.val % 128
    omega
  | ⟨2, _⟩ =>
    show (r.val * 64 + f.val) % 64 = f.val
    omega
  | ⟨3, _⟩ =>
    show (r.val * 64 + f.val) / 8192 % 2 = r.val / 128 % 2
    omega

/-- The hyperbolic tangent of an extended real is a real. -/
theorem tanh_real (x : EReal) : ∃ r : ℝ, Ideal.tanh x = (r : EReal) := by
  induction x with
  | bot => exact ⟨-1, by rw [Ideal.tanh_bot]; norm_num⟩
  | coe r => exact ⟨Real.tanh r, Ideal.tanh_coe r⟩
  | top => exact ⟨1, by rw [Ideal.tanh_top]; norm_num⟩

/-- A score is a real when the scoring vector is. -/
theorem score_real (x0 x7 x8 x9 x10 x11 x12 x13 x14 x15 x16 x17) (hv : ∀ k : Fin 64, ∃ r : ℝ, x17 (ix2 k (0 : Fin 1)) = (r : EReal))
    (r : Fin 2048) :
    ∃ z : ℝ, val_main_v151 (F := Ideal) x0 x7 x8 x9 x10 x11 x12 x13 x14 x15 x16 x17 (ix2 r (0 : Fin 1)) = (z : EReal) := by
  choose v hv using hv
  have ht : ∀ k : Fin 64, ∃ z : ℝ,
      val_main_v150 (F := Ideal) x0 x7 x8 x9 x10 x11 x12 x13 x14 x15 x16 (ix2 r k) = (z : EReal) := fun k => by
    rw [val_main_v150_apply, Ideal.hostUnary_tanh_def]
    exact tanh_real _
  choose t ht using ht
  refine ⟨∑ k : Fin 64, t k * v k, ?_⟩
  rw [val_main_v151_apply, ← Gcn.coe_sum]
  refine Finset.sum_congr rfl fun k _ => ?_
  have e1 : lidx_main_v151 (ix2 r (0 : Fin 1)) k = ix2 r k := funext fun x => Fin.ext (match x with
    | ⟨0, _⟩ => rfl
    | ⟨1, _⟩ => rfl)
  have e2 : ridx_main_v151 (ix2 r (0 : Fin 1)) k = ix2 k (0 : Fin 1) := funext fun x => Fin.ext (match x with
    | ⟨0, _⟩ => rfl
    | ⟨1, _⟩ => rfl)
  rw [e1, e2, ht, hv, EReal.coe_mul]

/-- Two rows with the same features have the same score. -/
theorem score_congr (x0 x7 x8 x9 x10 x11 x12 x13 x14 x15 x16 x17) (r s : Fin 2048)
    (h : ∀ f : Fin 64, val_main_v145 (F := Ideal) x0 x7 x8 x9 x10 x11 x12 x13 x14 (ix2 r f)
      = val_main_v145 (F := Ideal) x0 x7 x8 x9 x10 x11 x12 x13 x14 (ix2 s f)) :
    val_main_v151 (F := Ideal) x0 x7 x8 x9 x10 x11 x12 x13 x14 x15 x16 x17 (ix2 r (0 : Fin 1))
      = val_main_v151 (F := Ideal) x0 x7 x8 x9 x10 x11 x12 x13 x14 x15 x16 x17 (ix2 s (0 : Fin 1)) := by
  have hrow : ∀ k : Fin 64, val_main_v149 (F := Ideal) x0 x7 x8 x9 x10 x11 x12 x13 x14 x15 x16 (ix2 r k)
      = val_main_v149 (F := Ideal) x0 x7 x8 x9 x10 x11 x12 x13 x14 x15 x16 (ix2 s k) := fun k => by
    rw [val_main_v149_apply, val_main_v149_apply, Ideal.addf_def, Ideal.addf_def]
    refine congrArg₂ (· + ·) ?_ ?_
    · rw [val_main_v146_apply, val_main_v146_apply]
      refine Finset.sum_congr rfl fun f _ => ?_
      have e1 : ∀ q : Fin 2048, lidx_main_v146 (ix2 q k) f = ix2 q f := fun q => funext fun x => Fin.ext (match x with
        | ⟨0, _⟩ => rfl
        | ⟨1, _⟩ => rfl)
      have e2 : ridx_main_v146 (ix2 r k) f = ridx_main_v146 (ix2 s k) f := funext fun x => Fin.ext (match x with
        | ⟨0, _⟩ => rfl
        | ⟨1, _⟩ => rfl)
      rw [e1, e1, e2, h]
    · rw [val_main_v148_apply, val_main_v148_apply]
  rw [val_main_v151_apply, val_main_v151_apply]
  refine Finset.sum_congr rfl fun k _ => ?_
  have e1 : ∀ q : Fin 2048, lidx_main_v151 (ix2 q (0 : Fin 1)) k = ix2 q k := fun q => funext fun x => Fin.ext (match x with
    | ⟨0, _⟩ => rfl
    | ⟨1, _⟩ => rfl)
  have e2 : ridx_main_v151 (ix2 r (0 : Fin 1)) k = ridx_main_v151 (ix2 s (0 : Fin 1)) k := funext fun x => Fin.ext (match x with
    | ⟨0, _⟩ => rfl
    | ⟨1, _⟩ => rfl)
  rw [e1, e1, e2, val_main_v150_apply, val_main_v150_apply, hrow]

/-- The scores in the softmax's layout: node `n`'s pair is rows `2 n` and `2 n + 1` of the group's 256. -/
theorem softmax_operand_apply (x0 x7 x8 x9 x10 x11 x12 x13 x14 x15 x16 x17) (b : Fin 8) (n : Fin 128) (l : Fin 2) :
    val_main_v153 (F := Ideal) x0 x7 x8 x9 x10 x11 x12 x13 x14 x15 x16 x17 (ix3 b n l)
      = val_main_v151 (F := Ideal) x0 x7 x8 x9 x10 x11 x12 x13 x14 x15 x16 x17
        (ix2 (⟨(b.val * 128 + n.val) * 2 + l.val, by omega⟩ : Fin 2048) (0 : Fin 1)) := by
  rw [val_main_v153_apply, val_main_v152_apply]
  refine congrArg _ (funext fun x => Fin.ext ?_)
  match x with
  | ⟨0, _⟩ =>
    show ((b.val * 128 + n.val) * 2 + l.val) / 1 = (b.val * 128 + n.val) * 2 + l.val
    omega
  | ⟨1, _⟩ => rfl

/-- The literal minus infinity. -/
theorem lit_bot : Ideal.ofBits .f32 0xFF800000#32 = (⊥ : EReal) := by
  simp [Ideal.ofBits, Ideal.ieee]

/-- The largest score of a node whose two scores agree. -/
theorem max_apply (x0 x7 x8 x9 x10 x11 x12 x13 x14 x15 x16 x17) (b : Fin 8) (n : Fin 128) (z : EReal)
    (h : ∀ l : Fin 2, val_main_v153 (F := Ideal) x0 x7 x8 x9 x10 x11 x12 x13 x14 x15 x16 x17 (ix3 b n l) = z) :
    val_main_v156 (F := Ideal) x0 x7 x8 x9 x10 x11 x12 x13 x14 x15 x16 x17 (ix2 b n) = z := by
  rw [val_main_v156_apply, val_main_v155_apply, val_main_cst_10_apply, Ideal.maximumf_def, Ideal.ofBits_def, lit_bot]
  unfold val_main_v154
  generalize hy : val_main_v153 (F := Ideal) x0 x7 x8 x9 x10 x11 x12 x13 x14 x15 x16 x17 = y
  rw [hy] at h
  have hr : Shape.Reduces S8x128x2 [2] S8x128 := by decide
  have hm : Host.reduce (FloatOps.maximumf (F := Ideal) (φ := .f32)) y (val_main_cst_9 (F := Ideal)) reducesTo_S8x128x2_S8x128_d2 h_S_ (ix2 b n)
      = z := by
    haveI : Std.Commutative (FloatOps.maximumf (F := Ideal) (φ := .f32)) := ⟨fun a b => max_comm (a : EReal) b⟩
    haveI : Std.Associative (FloatOps.maximumf (F := Ideal) (φ := .f32)) := ⟨fun a b c => max_assoc (a : EReal) b c⟩
    rw [Host.reduce_eq_fold_single (FloatOps.maximumf (F := Ideal) (φ := .f32)) y _ reducesTo_S8x128x2_S8x128_d2 hr h_S_ (ix2 b n)]
    have hc : (y ∘ hr.lift (ix2 b n)) = fun _ => z := funext fun k => by
      refine (congrArg y (funext fun a => Fin.ext ?_)).trans (h k)
      match a with
      | ⟨0, _⟩ => rfl
      | ⟨1, _⟩ => rfl
      | ⟨2, _⟩ => rfl
    rw [hc, val_main_cst_9_apply, Ideal.ofBits_def, lit_bot]
    rw [Finset.fold_const z (by show max z (max ⊥ z) = max (⊥ : EReal) z; simp)]
    rw [if_neg (by exact Finset.univ_nonempty (α := Fin 2) |>.ne_empty)]
    show max (⊥ : EReal) z = z
    simp
  rw [hm]
  simp

/-- The exponential of the shifted score of a node whose two scores are the same real. -/
theorem exp_apply (x0 x7 x8 x9 x10 x11 x12 x13 x14 x15 x16 x17) (b : Fin 8) (n : Fin 128) (z : ℝ)
    (h : ∀ l : Fin 2, val_main_v153 (F := Ideal) x0 x7 x8 x9 x10 x11 x12 x13 x14 x15 x16 x17 (ix3 b n l) = (z : EReal)) (l : Fin 2) :
    val_main_v160 (F := Ideal) x0 x7 x8 x9 x10 x11 x12 x13 x14 x15 x16 x17 (ix3 b n l) = (1 : EReal) := by
  have e : idx_main_v157 (idx_main_v158 (ix3 b n l)) = ix2 b n := funext fun x => Fin.ext (match x with
    | ⟨0, _⟩ => rfl
    | ⟨1, _⟩ => rfl)
  rw [val_main_v160_apply, val_main_v159_apply, val_main_v158_apply, val_main_v157_apply, e, max_apply _ _ _ _ _ _ _ _ _ _ _ _ b n _ h,
    h, Ideal.hostUnary_exp_def, Ideal.subf_def, ← EReal.coe_sub, sub_self, Ideal.exp_coe, Real.exp_zero, EReal.coe_one]

/-- The weights of a node whose two scores are the same real are 1/2. -/
theorem weight_apply (x0 x7 x8 x9 x10 x11 x12 x13 x14 x15 x16 x17) (b : Fin 8) (n : Fin 128) (z : ℝ)
    (h : ∀ l : Fin 2, val_main_v153 (F := Ideal) x0 x7 x8 x9 x10 x11 x12 x13 x14 x15 x16 x17 (ix3 b n l) = (z : EReal)) (l : Fin 2) :
    val_main_v164 (F := Ideal) x0 x7 x8 x9 x10 x11 x12 x13 x14 x15 x16 x17 (ix3 b n l) = ((1 / 2 : ℝ) : EReal) := by
  have e : ∀ k : Fin 2, idx_main_v161 (idx_main_v162 (idx_main_v163 (ix3 b n l))) k = ix3 b n k := fun k => funext fun x => Fin.ext (match x with
    | ⟨0, _⟩ => rfl
    | ⟨1, _⟩ => rfl
    | ⟨2, _⟩ => rfl)
  have h0 : Ideal.ofBits .f32 0x00000000#32 = (0 : EReal) := by simp [Ideal.ofBits, Ideal.ieee]
  have h2 : (0 : EReal) + (1 + 1) = ((2 : ℝ) : EReal) := by
    rw [zero_add, ← EReal.coe_one, ← EReal.coe_add]; norm_num
  rw [val_main_v164_apply, val_main_v163_apply, val_main_v162_apply, val_main_v161_apply, val_main_cst_11_apply,
    exp_apply _ _ _ _ _ _ _ _ _ _ _ _ b n z h, Fin.sum_univ_two, e, e,
    exp_apply _ _ _ _ _ _ _ _ _ _ _ _ b n z h, exp_apply _ _ _ _ _ _ _ _ _ _ _ _ b n z h, Ideal.hostDivf_def, Ideal.ofBits_def, h0, h2,
    Ideal.div_coe (by norm_num), one_mul]

/-- The result where the two layers are the same at every node and the scoring vector is real: half of the one plus half of
    the other. -/
theorem result_apply (x0 x7 x8 x9 x10 x11 x12 x13 x14 x15 x16 x17) (c d : Fin 8 → Fin 64 → EReal)
    (hc : ∀ b n o, val_main_v74 (F := Ideal) x0 x7 x8 x11 x12 (ix4 b (11 : Fin 12) n o) = c b o)
    (hd : ∀ b n o, val_main_v134 (F := Ideal) x0 x7 x8 x9 x10 x11 x12 x13 x14 (ix4 b (11 : Fin 12) n o) = d b o)
    (hv : ∀ k : Fin 64, ∃ r : ℝ, x17 (ix2 k (0 : Fin 1)) = (r : EReal)) (b : Fin 8) (n : Fin 128) (o : Fin 64) :
    val_main_v165 (F := Ideal) x0 x7 x8 x9 x10 x11 x12 x13 x14 x15 x16 x17 (ix3 b n o)
      = ((1 / 2 : ℝ) : EReal) * c b o + ((1 / 2 : ℝ) : EReal) * d b o := by
  have hpair : ∀ (b : Fin 8) (n n' : Fin 128) (o : Fin 64) (l : Fin 2),
      val_main_v143 (F := Ideal) x0 x7 x8 x9 x10 x11 x12 x13 x14 (ix4 b n o l)
        = val_main_v143 (F := Ideal) x0 x7 x8 x9 x10 x11 x12 x13 x14 (ix4 b n' o l) := fun b n n' o l => by
    match l with
    | ⟨0, _⟩ => exact ((pair_first _ _ _ _ _ _ _ _ _ b n o).trans (hc b n o)).trans ((pair_first _ _ _ _ _ _ _ _ _ b n' o).trans (hc b n' o)).symm
    | ⟨1, _⟩ => exact ((pair_second _ _ _ _ _ _ _ _ _ b n o).trans (hd b n o)).trans ((pair_second _ _ _ _ _ _ _ _ _ b n' o).trans (hd b n' o)).symm
  obtain ⟨z, hz⟩ := score_real x0 x7 x8 x9 x10 x11 x12 x13 x14 x15 x16 x17 hv (⟨(b.val * 128 + n.val) * 2, by omega⟩ : Fin 2048)
  have hs : ∀ l : Fin 2, val_main_v153 (F := Ideal) x0 x7 x8 x9 x10 x11 x12 x13 x14 x15 x16 x17 (ix3 b n l) = (z : EReal) := fun l => by
    rw [softmax_operand_apply, ← hz]
    refine score_congr _ _ _ _ _ _ _ _ _ _ _ _ _ _ fun f => ?_
    rw [operand_apply, operand_apply]
    rw [hpair _ (⟨((b.val * 128 + n.val) * 2 + l.val) % 128, by omega⟩ : Fin 128) (⟨((b.val * 128 + n.val) * 2) % 128, by omega⟩ : Fin 128)]
    refine congrArg _ (funext fun x => Fin.ext ?_)
    have hl : l.val < 2 := l.isLt
    match x with
    | ⟨0, _⟩ =>
      show ((b.val * 128 + n.val) * 2 + l.val) / 256 = ((b.val * 128 + n.val) * 2) / 256
      omega
    | ⟨1, _⟩ => rfl
    | ⟨2, _⟩ => rfl
    | ⟨3, _⟩ =>
      show ((b.val * 128 + n.val) * 2 + l.val) / 128 % 2 = ((b.val * 128 + n.val) * 2) / 128 % 2
      omega
  have e1 : ∀ k : Fin 2, lidx_main_v165 (ix3 b n o) k = ix3 b n k := fun k => funext fun x => Fin.ext (match x with
    | ⟨0, _⟩ => rfl
    | ⟨1, _⟩ => rfl
    | ⟨2, _⟩ => rfl)
  have e2 : ∀ k : Fin 2, ridx_main_v165 (ix3 b n o) k = ix4 b n o k := fun k => funext fun x => Fin.ext (match x with
    | ⟨0, _⟩ => rfl
    | ⟨1, _⟩ => rfl
    | ⟨2, _⟩ => rfl
    | ⟨3, _⟩ => rfl)
  rw [val_main_v165_apply, Fin.sum_univ_two, e1, e1, e2, e2, weight_apply _ _ _ _ _ _ _ _ _ _ _ _ b n z hs,
    weight_apply _ _ _ _ _ _ _ _ _ _ _ _ b n z hs, pair_first, pair_second, hc, hd]

end Cert.ReferenceIdeal.Attention
-- ==== Proof.RefValue.lean ====
/-
  The reference's result on finite inputs, in the folded form of the layers: half the sum of two layers on the means over the
  nodes.
-/
module

public import proofs.«01_k».proof.Proof.RefAttention

@[expose] public section

set_option maxRecDepth 16384

noncomputable section

namespace Cert.ReferenceIdeal.Folded

open Cert.Gcn (folded layer mean)
open Cert.ReferenceIdeal Cert.ReferenceIdeal.Gen Cert.ReferenceIdeal.Read
open Idealize.ShloMosaic
open Idealize.ShloMosaic.TcCoe
open Idealize.ShloMosaic.ValueIdx (ix1 ix2 ix3 ix4 ix5 eq_ix2 eq_ix1 idxEquiv2)
open scoped BigOperators

/-- The mean over the nodes at time step `4 + s`. -/
def mu (x0 : FVec Ideal S8x12x64x128 .f32) (b s : Fin 8) (f : Fin 64) : EReal :=
  Ideal.div (∑ n : Fin 128, x0 (ix4 b (⟨4 + s.val, by omega⟩ : Fin 12) f n)) (Ideal.ofBits .f32 0x43000000#32)

/-- The first layer on the means, at time steps 7, 9 and 11. -/
def first (x0 : FVec Ideal S8x12x64x128 .f32) (x7 : FVec Ideal S64x64 .f32) (x8 : FVec Ideal S64 .f32)
    (x11 : FVec Ideal S64x64x1x3 .f32) (x12 : FVec Ideal S64 .f32) (b : Fin 8) (k : Fin 3) (o : Fin 64) : EReal :=
  folded (fun k' f => mu x0 b ⟨1 + 2 * k.val + k'.val, by omega⟩ f) (fun f g => x7 (ix2 f g))
    (fun k g o => x11 (ix4 o g (0 : Fin 1) k)) (fun g => x8 (ix1 g)) (fun g => x12 (ix1 g)) o

/-- The second layer at time step 11, on the means plus the first layer. -/
def second (x0 : FVec Ideal S8x12x64x128 .f32) (x7 : FVec Ideal S64x64 .f32) (x8 : FVec Ideal S64 .f32)
    (x9 : FVec Ideal S64x64 .f32) (x10 : FVec Ideal S64 .f32) (x11 : FVec Ideal S64x64x1x3 .f32) (x12 : FVec Ideal S64 .f32)
    (x13 : FVec Ideal S64x64x1x3 .f32) (x14 : FVec Ideal S64 .f32) (b : Fin 8) (o : Fin 64) : EReal :=
  folded (fun k f => mu x0 b ⟨3 + 2 * k.val, by omega⟩ f + first x0 x7 x8 x11 x12 b k f) (fun f g => x9 (ix2 f g))
    (fun k g o => x13 (ix4 o g (0 : Fin 1) k)) (fun g => x10 (ix1 g)) (fun g => x14 (ix1 g)) o

/-- The weight of an edge is the real 1/128. -/
theorem weight_eq : Graph.weight = ((1 / 128 : ℝ) : EReal) := by
  show Ideal.ofBits .f32 0x3C000000#32 = _
  simp [Ideal.ofBits, Ideal.ieee, -EReal.coe_mul]
  norm_num

/-- The literal 128. -/
theorem lit_128 : Ideal.ofBits .f32 0x43000000#32 = ((128 : ℝ) : EReal) := by
  simp [Ideal.ofBits, Ideal.ieee, -EReal.coe_mul]
  norm_num

/-- The literal 1/2. -/
theorem lit_half : Ideal.ofBits .f32 0x3F000000#32 = ((1 / 2 : ℝ) : EReal) := by
  simp [Ideal.ofBits, Ideal.ieee, -EReal.coe_mul]
  norm_num

/-- A mean over nodes of finite numbers is finite, and is the mean of those numbers. -/
theorem mu_eq (x0 : FVec Ideal S8x12x64x128 .f32) (b s : Fin 8) (x : Fin 64 → Fin 128 → ℝ)
    (h : ∀ f n, x0 (ix4 b (⟨4 + s.val, by omega⟩ : Fin 12) f n) = (x f n : EReal)) (f : Fin 64) :
    mu x0 b s f = (mean x f : EReal) := by
  unfold mu mean
  simp only [h]
  rw [Gcn.coe_sum, lit_128, Ideal.div_coe (by norm_num), ← EReal.coe_mul]
  congr 1
  ring

/-- The finiteness of the arguments which the folding of the layers needs. -/
structure Finite (x0 : FVec Ideal S8x12x64x128 .f32) (x7 : FVec Ideal S64x64 .f32) (x8 : FVec Ideal S64 .f32)
    (x9 : FVec Ideal S64x64 .f32) (x11 : FVec Ideal S64x64x1x3 .f32) (x12 : FVec Ideal S64 .f32)
    (x13 : FVec Ideal S64x64x1x3 .f32) (x17 : FVec Ideal S64x1 .f32) : Prop where
  rows : ∀ (b : Fin 8) (s : Fin 7) (f : Fin 64) (n : Fin 128), ∃ r : ℝ, x0 (ix4 b (⟨5 + s.val, by omega⟩ : Fin 12) f n) = (r : EReal)
  matrix0 : ∀ f g : Fin 64, ∃ r : ℝ, x7 (ix2 f g) = (r : EReal)
  bias0 : ∀ g : Fin 64, ∃ r : ℝ, x8 (ix1 g) = (r : EReal)
  matrix1 : ∀ f g : Fin 64, ∃ r : ℝ, x9 (ix2 f g) = (r : EReal)
  taps0 : ∀ (o g : Fin 64) (k : Fin 3), ∃ r : ℝ, x11 (ix4 o g (0 : Fin 1) k) = (r : EReal)
  shift0 : ∀ g : Fin 64, ∃ r : ℝ, x12 (ix1 g) = (r : EReal)
  taps1 : ∀ (o g : Fin 64) (k : Fin 3), ∃ r : ℝ, x13 (ix4 o g (0 : Fin 1) k) = (r : EReal)
  score : ∀ k : Fin 64, ∃ r : ℝ, x17 (ix2 k (0 : Fin 1)) = (r : EReal)

section
variable {x0 : FVec Ideal S8x12x64x128 .f32} {x7 : FVec Ideal S64x64 .f32} {x8 : FVec Ideal S64 .f32}
  {x9 : FVec Ideal S64x64 .f32} {x11 : FVec Ideal S64x64x1x3 .f32} {x12 : FVec Ideal S64 .f32}
  {x13 : FVec Ideal S64x64x1x3 .f32} {x17 : FVec Ideal S64x1 .f32}

/-- The first layer on the means is finite. -/
theorem first_real (H : Finite x0 x7 x8 x9 x11 x12 x13 x17) (b : Fin 8) (k : Fin 3) (o : Fin 64) :
    ∃ r : ℝ, first x0 x7 x8 x11 x12 b k o = (r : EReal) := by
  choose x hx using H.rows
  choose w hw using H.matrix0
  choose p hp using H.bias0
  choose t ht using H.taps0
  choose q hq using H.shift0
  obtain ⟨r, _, hr⟩ := Gcn.folded_real (fun k' : Fin 3 => mean (x b (⟨2 * k.val + k'.val, by omega⟩ : Fin 7))) w (fun k g o => t o g k) p q o
  refine ⟨r, Eq.trans ?_ hr⟩
  unfold first
  simp only [hw, hp, ht, hq]
  refine congrArg (fun z => folded z _ _ _ _ o) (funext fun k' => funext fun f => mu_eq x0 b _ _ (fun f n => ?_) f)
  rw [← hx]
  refine congrArg (fun i : Fin 12 => x0 (ix4 b i f n)) (Fin.ext ?_)
  show 4 + (1 + 2 * k.val + k'.val) = 5 + (2 * k.val + k'.val)
  omega

/-- The reference's first layer at time steps 7, 9 and 11, at every node: the folded layer on the means. -/
theorem first_eq (H : Finite x0 x7 x8 x9 x11 x12 x13 x17) (b : Fin 8) (k : Fin 3) (n : Fin 128) (o : Fin 64) :
    val_main_v74 (F := Ideal) x0 x7 x8 x11 x12 (ix4 b (⟨7 + 2 * k.val, by omega⟩ : Fin 12) n o) = first x0 x7 x8 x11 x12 b k o := by
  choose x hx using H.rows
  choose w hw using H.matrix0
  choose t ht using H.taps0
  have hi : (⟨7 + 2 * k.val, by omega⟩ : Fin 12) = ⟨2 + (⟨5 + 2 * k.val, by omega⟩ : Fin 10).val, by dsimp only; omega⟩ :=
    Fin.ext (by show 7 + 2 * k.val = 2 + (5 + 2 * k.val); omega)
  have hr : ∀ (k' : Fin 3) (f : Fin 64) (a : Fin 128),
      x0 (ix4 b (⟨(⟨5 + 2 * k.val, by omega⟩ : Fin 10).val + k'.val, by dsimp only; omega⟩ : Fin 12) f a)
        = (x b (⟨2 * k.val + k'.val, by omega⟩ : Fin 7) f a : EReal) := fun k' f a => by
    rw [← hx]
    refine congrArg (fun i : Fin 12 => x0 (ix4 b i f a)) (Fin.ext ?_)
    show 5 + 2 * k.val + k'.val = 5 + (2 * k.val + k'.val)
    omega
  rw [hi, Conv.first_apply, weight_eq]
  unfold first
  simp only [hr, hw, ht]
  refine (Gcn.layer_eq (fun k' : Fin 3 => x b (⟨2 * k.val + k'.val, by omega⟩ : Fin 7)) w (fun k g o => t o g k) _ _ o).trans ?_
  refine congrArg (fun z => folded z _ _ _ _ o) (funext fun k' => funext fun f => (mu_eq x0 b _ _ (fun f n => ?_) f).symm)
  rw [← hx]
  refine congrArg (fun i : Fin 12 => x0 (ix4 b i f n)) (Fin.ext ?_)
  show 4 + (1 + 2 * k.val + k'.val) = 5 + (2 * k.val + k'.val)
  omega

/-- The reference's second layer at the last time step, at every node: the folded layer on the means plus the first layer. -/
theorem second_eq (H : Finite x0 x7 x8 x9 x11 x12 x13 x17) (x10 x14 : FVec Ideal S64 .f32) (b : Fin 8) (n : Fin 128) (o : Fin 64) :
    val_main_v134 (F := Ideal) x0 x7 x8 x9 x10 x11 x12 x13 x14 (ix4 b (11 : Fin 12) n o)
      = second x0 x7 x8 x9 x10 x11 x12 x13 x14 b o := by
  have hf := first_real H b
  choose c hc using hf
  choose x hx using H.rows
  choose w hw using H.matrix1
  choose t ht using H.taps1
  have hr : ∀ (k : Fin 3) (f : Fin 64) (a : Fin 128),
      val_main_v79 (F := Ideal) x0 x7 x8 x11 x12 (ix4 b (⟨7 + 2 * k.val, by omega⟩ : Fin 12) f a)
        = ((c k f + x b (⟨2 + 2 * k.val, by omega⟩ : Fin 7) f a : ℝ) : EReal) := fun k f a => by
    rw [Conv.residual_apply, first_eq H, hc, EReal.coe_add, ← hx]
    refine congrArg (fun i : Fin 12 => (c k f : EReal) + x0 (ix4 b i f a)) (Fin.ext ?_)
    show 7 + 2 * k.val = 5 + (2 + 2 * k.val)
    omega
  have hm : ∀ (k : Fin 3) (f : Fin 64), mean (fun f a => c k f + x b (⟨2 + 2 * k.val, by omega⟩ : Fin 7) f a) f
      = mean (x b (⟨2 + 2 * k.val, by omega⟩ : Fin 7)) f + c k f := fun k f => by
    unfold mean
    rw [Finset.sum_add_distrib, Finset.sum_const, Finset.card_univ, Fintype.card_fin, nsmul_eq_mul]
    push_cast
    ring
  rw [Conv.second_apply, weight_eq]
  unfold second
  simp only [hr, hw, ht, hc]
  refine (Gcn.layer_eq (fun k : Fin 3 => fun f a => c k f + x b (⟨2 + 2 * k.val, by omega⟩ : Fin 7) f a) w (fun k g o => t o g k) _ _ o).trans ?_
  refine congrArg (fun z => folded z _ _ _ _ o) (funext fun k => funext fun f => ?_)
  rw [hm, EReal.coe_add]
  refine congrArg (· + (c k f : EReal)) (mu_eq x0 b _ _ (fun f n => ?_) f).symm
  rw [← hx]
  refine congrArg (fun i : Fin 12 => x0 (ix4 b i f n)) (Fin.ext ?_)
  show 4 + (3 + 2 * k.val) = 5 + (2 + 2 * k.val)
  omega

/-- The reference's result on finite inputs: half the sum of the two folded layers. -/
theorem value_apply (H : Finite x0 x7 x8 x9 x11 x12 x13 x17) (x10 x14 : FVec Ideal S64 .f32) (x15 : FVec Ideal S64x64 .f32)
    (x16 : FVec Ideal S64 .f32) (b : Fin 8) (n : Fin 128) (o : Fin 64) :
    val_main_v165 (F := Ideal) x0 x7 x8 x9 x10 x11 x12 x13 x14 x15 x16 x17 (ix3 b n o)
      = Ideal.ofBits .f32 0x3F000000#32 * (first x0 x7 x8 x11 x12 b 2 o + second x0 x7 x8 x9 x10 x11 x12 x13 x14 b o) := by
  rw [Attention.result_apply x0 x7 x8 x9 x10 x11 x12 x13 x14 x15 x16 x17 (fun b o => first x0 x7 x8 x11 x12 b 2 o)
    (fun b o => second x0 x7 x8 x9 x10 x11 x12 x13 x14 b o) (fun b n o => first_eq H b 2 n o) (fun b n o => second_eq H x10 x14 b n o) H.score, lit_half]
  obtain ⟨c, hc⟩ := first_real H b 2 o
  rw [hc, mul_comm _ (_ + _), Gcn.real_add_mul, mul_comm, mul_comm (second _ _ _ _ _ _ _ _ _ _ _)]

end

end Cert.ReferenceIdeal.Folded
-- ==== Proof.Precond.lean ====
/-
  The precondition read back: its eight tests, each that the absolute values of an array are below infinity, say that the
  arrays' elements are real numbers.
-/
module

public import proofs.«01_k».proof.Pre_finite_inputs
public import proofs.«01_k».proof.Proof.RefValue
public import Idealize.ShloMosaic.Lib.ReduceAll

@[expose] public section

set_option maxRecDepth 16384

noncomputable section

namespace Cert.Precond

open Cert.Pre_finite_inputs
open Idealize.ShloMosaic
open Idealize.ShloMosaic.ValueIdx (ix1 ix2 ix3 ix4)

/-- The side conditions of the precondition's operations. -/
theorem facts : Cert.Pre_finite_inputs.Facts where
  slices_S8x12x64x128_S8x7x64x128_0_5_0_0 := by decide
  bcast_S_S8x7x64x128 := by decide
  reducesTo_S8x7x64x128_S_d0_1_2_3 := by decide
  h_S_ := by decide
  bcast_S_S64x64 := by decide
  reducesTo_S64x64_S_d0_1 := by decide
  bcast_S_S64 := by decide
  reducesTo_S64_S_d0 := by decide
  bcast_S_S64x64x1x3 := by decide
  reducesTo_S64x64x1x3_S_d0_1_2_3 := by decide
  bcast_S_S64x1 := by decide
  reducesTo_S64x1_S_d0_1 := by decide

/-- An extended real whose absolute value compares below infinity is a real. -/
theorem real_of_below (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x with
  | bot => simp [Ideal.cmp] at h
  | coe r => exact ⟨r, rfl⟩
  | top => simp [Ideal.cmp] at h

/-- One of the tests: an array all of whose absolute values compare below infinity holds reals. -/
theorem reals_of_test {S : Shape} {axes : List (Fin S.rank)} (x : FVec Ideal S .f32) (hb : S_.BroadcastsInDim S (![] : Fin 0 → Fin S.rank))
    (hr : S.ReducesTo axes S_) (hu : 0 < S_.numel) (j : S_.Idx)
    (h : Host.reduce IntOp.andi (cmpf .olt (Host.absf x) (broadcastInDim S ![] hb (constant (F := Ideal) S_ .f32 0x7F800000#32)))
      (constantI S_ 1 1#1) hr hu j = 1#1) (i : S.Idx) : ∃ r : ℝ, x i = (r : EReal) := by
  haveI : Subsingleton S_.Idx := ⟨fun a b => funext fun k => k.elim0⟩
  exact real_of_below (x i) (Host.reduce_andi_all _ _ hr hu j h i)

/-- The precondition gives the finiteness the folding of the layers needs. -/
theorem finite [Cert.Pre_finite_inputs.Facts] (x0 : FVec Ideal S8x12x64x128 .f32) (x1 : FVec Ideal S64x64 .f32) (x2 : FVec Ideal S12x128x128 .f32)
    (x3 x4 x5 : IVec S_ 32) (x6 : FVec Ideal S12x128x128 .f32) (x7 : FVec Ideal S64x64 .f32) (x8 : FVec Ideal S64 .f32)
    (x9 : FVec Ideal S64x64 .f32) (x10 : FVec Ideal S64 .f32) (x11 : FVec Ideal S64x64x1x3 .f32) (x12 : FVec Ideal S64 .f32)
    (x13 : FVec Ideal S64x64x1x3 .f32) (x14 : FVec Ideal S64 .f32) (x15 : FVec Ideal S64x64 .f32) (x16 : FVec Ideal S64 .f32)
    (x17 : FVec Ideal S64x1 .f32)
    (h : fn (F := Ideal) x0 x1 x2 x3 x4 x5 x6 x7 x8 x9 x10 x11 x12 x13 x14 x15 x16 x17 = fun _ => 1#1) :
    Cert.ReferenceIdeal.Folded.Finite x0 x7 x8 x9 x11 x12 x13 x17 := by
  have e := congrFun h (fun a => a.elim0)
  unfold fn fn_part1 fn_part2 at e
  obtain ⟨e, hv⟩ := IntOp.andi_eq_one.1 e
  obtain ⟨e, h13⟩ := IntOp.andi_eq_one.1 e
  obtain ⟨e, h9⟩ := IntOp.andi_eq_one.1 e
  obtain ⟨e, h12⟩ := IntOp.andi_eq_one.1 e
  obtain ⟨e, h11⟩ := IntOp.andi_eq_one.1 e
  obtain ⟨e, h8⟩ := IntOp.andi_eq_one.1 e
  obtain ⟨h0, h7⟩ := IntOp.andi_eq_one.1 e
  refine ⟨fun b s f n => ?_, fun f g => reals_of_test x7 _ _ _ _ h7 _, fun g => reals_of_test x8 _ _ _ _ h8 _,
    fun f g => reals_of_test x9 _ _ _ _ h9 _, fun o g k => reals_of_test x11 _ _ _ _ h11 _, fun g => reals_of_test x12 _ _ _ _ h12 _,
    fun o g k => reals_of_test x13 _ _ _ _ h13 _, fun k => reals_of_test x17 _ _ _ _ hv _⟩
  obtain ⟨r, hr⟩ := reals_of_test _ _ _ _ _ h0 (ix4 b s f n : S8x7x64x128.Idx)
  refine ⟨r, Eq.trans (extractStridedSlice_apply _ x0 _ _ _ fun a => ?_).symm hr⟩
  match a with
  | ⟨0, _⟩ => exact (Nat.zero_add _).symm
  | ⟨1, _⟩ => rfl
  | ⟨2, _⟩ => exact (Nat.zero_add _).symm
  | ⟨3, _⟩ => exact (Nat.zero_add _).symm

end Cert.Precond
-- ==== Proof.lean ====
/-
  The five claims put together: every program runs to its end with its arguments unchanged, the idealized kernel is the
  kernel, and on finite inputs the idealized kernel and the idealized reference end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.KernelWords
public import proofs.«01_k».proof.Proof.KernelMeans
public import proofs.«01_k».proof.Proof.RefValue
public import proofs.«01_k».proof.Proof.Precond
public import Idealize.ShloMosaic.Adequacy
public import Idealize.ShloMosaic.Init

@[expose] public section

noncomputable section

namespace Cert.Proof

open Idealize.ShloMosaic Idealize.SL.Sem

/-- The reference runs to its end, its arguments unchanged and its semaphores at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- What the reference computes from the kernel's arguments is what the kernel leaves in its result. -/
theorem value_eq (m : (ℓ : Loc Cert.KernelIdeal.nD Cert.KernelIdeal.τ Cert.KernelIdeal.sig) → Buf (Elt Ideal) ℓ)
    (hpre : Cert.Pre_KernelIdeal_finite_inputs (hPre_finite_inputs := Cert.Precond.facts) m) (c : Dev Cert.KernelIdeal.nD) :
    Cert.ReferenceIdeal.Read.val_main_v165 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      = Cert.KernelIdeal.Body.final m c := by
  have H := @Cert.Precond.finite Cert.Precond.facts _ _ _ _ _ _ _ _ _ _ _ _ _ _ _ _ _ _ (hpre c)
  funext i
  obtain ⟨b, n, o, rfl⟩ : ∃ (b : Fin 8) (n : Fin 128) (o : Fin 64), i = ValueIdx.ix3 b n o :=
    ⟨i 0, i 1, i 2, by funext a; match a with | ⟨0, _⟩ => rfl | ⟨1, _⟩ => rfl | ⟨2, _⟩ => rfl⟩
  exact (Cert.ReferenceIdeal.Folded.value_apply H _ _ _ _ b n o).trans (Cert.KernelIdeal.Means.final_apply m c b n o).symm

/-- The reference's value on equal arguments. -/
theorem value_congr {x0 y0 : FVec Ideal Cert.ReferenceIdeal.S8x12x64x128 .f32}
    {x7 y7 : FVec Ideal Cert.ReferenceIdeal.S64x64 .f32}
    {x8 y8 : FVec Ideal Cert.ReferenceIdeal.S64 .f32}
    {x9 y9 : FVec Ideal Cert.ReferenceIdeal.S64x64 .f32}
    {x10 y10 : FVec Ideal Cert.ReferenceIdeal.S64 .f32}
    {x11 y11 : FVec Ideal Cert.ReferenceIdeal.S64x64x1x3 .f32}
    {x12 y12 : FVec Ideal Cert.ReferenceIdeal.S64 .f32}
    {x13 y13 : FVec Ideal Cert.ReferenceIdeal.S64x64x1x3 .f32}
    {x14 y14 : FVec Ideal Cert.ReferenceIdeal.S64 .f32}
    {x15 y15 : FVec Ideal Cert.ReferenceIdeal.S64x64 .f32}
    {x16 y16 : FVec Ideal Cert.ReferenceIdeal.S64 .f32}
    {x17 y17 : FVec Ideal Cert.ReferenceIdeal.S64x1 .f32}
    (h0 : x0 = y0) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) :
    Cert.ReferenceIdeal.Read.val_main_v165 (F := Ideal) x0 x7 x8 x9 x10 x11 x12 x13 x14 x15 x16 x17
      = Cert.ReferenceIdeal.Read.val_main_v165 (F := Ideal) y0 y7 y8 y9 y10 y11 y12 y13 y14 y15 y16 y17 := by
  subst h0 h7 h8 h9 h10 h11 h12 h13 h14 h15 h16 h17
  rfl

/-- On finite inputs the kernel and the reference end with the same result. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Precond.facts) := by
  intro m ρ m' ρ' hpre hagree
  refine ⟨fun c => Cert.KernelIdeal.Body.final m c, Cert.KernelIdeal.Body.run m ρ,
    (θ_run Cert.ReferenceIdeal.defs _ _).mono (fun _ h c => ⟨(h c).1.trans ?_, (h c).2⟩)
      (Cert.ReferenceIdeal.Value.run (F := Ideal) m' ρ')⟩
  refine (Cert.ReferenceIdeal.Read.val_main_v165_eq (StableHlo.launchContents m' c)).trans (Eq.trans ?_ (value_eq m hpre c))
  obtain ⟨h0, -, -, -, -, -, -, h7, h8, h9, h10, h11, h12, h13, h14, h15, h16, h17⟩ := hagree c
  exact value_congr h0 h7 h8 h9 h10 h11 h12 h13 h14 h15 h16 h17

theorem claim : Cert.Claim :=
  ⟨Cert.Kernel.Gen.facts, Cert.KernelIdeal.Gen.facts, Cert.ReferenceIdeal.Gen.facts, Cert.Precond.facts,
    Cert.Kernel.Words.frame, fun m ρ _ => Cert.KernelIdeal.Body.frame m ρ,
    fun m ρ _ => Cert.KernelIdeal.Body.frame m ρ, reference_frame, fun m ρ _ => reference_frame m ρ trivial, trivial, algebraic⟩

end Cert.Proof

end
